-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v96) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S_ : Shape := ⟨0, ![]⟩
abbrev S64x7 : Shape := ⟨2, ![64, 7]⟩
abbrev S64x1 : Shape := ⟨2, ![64, 1]⟩
abbrev S64 : Shape := ⟨1, ![64]⟩
abbrev S16x512x512 : Shape := ⟨3, ![16, 512, 512]⟩
abbrev S16x512 : Shape := ⟨2, ![16, 512]⟩
abbrev S100000x512 : Shape := ⟨2, ![100000, 512]⟩
abbrev S64x512 : Shape := ⟨2, ![64, 512]⟩
abbrev S512x512 : Shape := ⟨2, ![512, 512]⟩

class Facts : Prop where
  reducesTo_S100000x512_S_d0_1 : S100000x512.ReducesTo [0, 1] S_
  h_S_ : 0 < S_.numel
  reducesTo_S64x1_S_d0_1 : S64x1.ReducesTo [0, 1] S_

variable [Facts]

def fn {F : FTy → Type} [FloatOps F] (main_arg0 : IVec S_ 32) (main_arg1 : IVec S64x7 32) (main_arg2 : FVec F S64x1 .f32) (main_arg3 : IVec S64 32) (main_arg4 : FVec F S16x512x512 .f32) (main_arg5 : FVec F S16x512 .f32) (main_arg6 : FVec F S100000x512 .f32) (main_arg7 : FVec F S64x512 .f32) (main_arg8 : FVec F S512x512 .f32) (main_arg9 : FVec F S512x512 .f32) : IVec S_ 1 :=
  let main_c : IVec S_ 32 := constantI S_ 32 1#32
  let main_v0 : IVec S_ 1 := cmpi .sge main_arg0 main_c
  let main_c_0 : IVec S_ 32 := constantI S_ 32 6#32
  let main_v1 : IVec S_ 1 := cmpi .sle main_arg0 main_c_0
  let main_v2 : IVec S_ 1 := andi main_v0 main_v1
  let main_v3 : FVec F S100000x512 .f32 := Host.absf main_arg6
  let main_cst : FVec F S_ .f32 := constant S_ .f32 0xFF800000#32
  let main_v4 : FVec F S_ .f32 := (fun x v => Host.reduce FloatOps.maximumf x v reducesTo_S100000x512_S_d0_1 h_S_) main_v3 main_cst
  let main_cst_1 : FVec F S_ .f32 := constant S_ .f32 0x447A0000#32
  let main_v5 : IVec S_ 1 := cmpf .ole main_v4 main_cst_1
  let main_v6 : IVec S_ 1 := andi main_v2 main_v5
  let main_v7 : FVec F S64x1 .f32 := Host.absf main_arg2
  let main_cst_2 : FVec F S_ .f32 := constant S_ .f32 0xFF800000#32
  let main_v8 : FVec F S_ .f32 := (fun x v => Host.reduce FloatOps.maximumf x v reducesTo_S64x1_S_d0_1 h_S_) main_v7 main_cst_2
  let main_cst_3 : FVec F S_ .f32 := constant S_ .f32 0x4CBEBC20#32
  let main_v9 : IVec S_ 1 := cmpf .ole main_v8 main_cst_3
  let main_v10 : IVec S_ 1 := andi main_v6 main_v9
  main_v10
-- ==== Kernel.lean ====
abbrev S_ : Shape := ⟨0, ![]⟩
abbrev S64x7 : Shape := ⟨2, ![64, 7]⟩
abbrev S64x1 : Shape := ⟨2, ![64, 1]⟩
abbrev S64 : Shape := ⟨1, ![64]⟩
abbrev S16x512x512 : Shape := ⟨3, ![16, 512, 512]⟩
abbrev S16x512 : Shape := ⟨2, ![16, 512]⟩
abbrev S100000x512 : Shape := ⟨2, ![100000, 512]⟩
abbrev S64x512 : Shape := ⟨2, ![64, 512]⟩
abbrev S512x512 : Shape := ⟨2, ![512, 512]⟩
abbrev S16x512x1 : Shape := ⟨3, ![16, 512, 1]⟩
abbrev S16 : Shape := ⟨1, ![16]⟩
abbrev S16x1 : Shape := ⟨2, ![16, 1]⟩
abbrev S16x4x512 : Shape := ⟨3, ![16, 4, 512]⟩
abbrev S1 : Shape := ⟨1, ![1]⟩
abbrev S1x1 : Shape := ⟨2, ![1, 1]⟩
abbrev S1x512 : Shape := ⟨2, ![1, 512]⟩
abbrev S512 : Shape := ⟨1, ![512]⟩
abbrev S512x64 : Shape := ⟨2, ![512, 64]⟩
abbrev S5000 : Shape := ⟨1, ![5000]⟩
abbrev S5000x1 : Shape := ⟨2, ![5000, 1]⟩
abbrev S5000x128 : Shape := ⟨2, ![5000, 128]⟩
abbrev S1x64 : Shape := ⟨2, ![1, 64]⟩
abbrev S4x64 : Shape := ⟨2, ![4, 64]⟩
abbrev S10000x512 : Shape := ⟨2, ![10000, 512]⟩
abbrev S10x128 : Shape := ⟨2, ![10, 128]⟩
abbrev S40x128 : Shape := ⟨2, ![40, 128]⟩
abbrev S1x128 : Shape := ⟨2, ![1, 128]⟩
abbrev S128 : Shape := ⟨1, ![128]⟩
abbrev S5000x512 : Shape := ⟨2, ![5000, 512]⟩
abbrev S5000x64 : Shape := ⟨2, ![5000, 64]⟩
abbrev S4x128 : Shape := ⟨2, ![4, 128]⟩
abbrev S40x64 : Shape := ⟨2, ![40, 64]⟩
abbrev S80x64 : Shape := ⟨2, ![80, 64]⟩
abbrev S64x4 : Shape := ⟨2, ![64, 4]⟩
abbrev S4 : Shape := ⟨1, ![4]⟩
abbrev S1x4 : Shape := ⟨2, ![1, 4]⟩
abbrev S16x16 : Shape := ⟨2, ![16, 16]⟩
abbrev S16x4 : Shape := ⟨2, ![16, 4]⟩
abbrev S16x4x1 : Shape := ⟨3, ![16, 4, 1]⟩
abbrev S1x1x1 : Shape := ⟨3, ![1, 1, 1]⟩
abbrev S64x8 : Shape := ⟨2, ![64, 8]⟩

abbrev nBuf : Space → Nat
  | .hbm => 225
  | .vmem => 11
  | .smem => 0
  | _ => 0

abbrev hbmTy0_0 (i : Nat) : BufTy := match i % 128 with
  | 0 => ⟨S_, .i32⟩
  | 1 => ⟨S64x7, .i32⟩
  | 2 => ⟨S64x1, .f32⟩
  | 3 => ⟨S64, .i32⟩
  | 4 => ⟨S16x512x512, .f32⟩
  | 5 => ⟨S16x512, .f32⟩
  | 6 => ⟨S100000x512, .f32⟩
  | 7 => ⟨S64x512, .f32⟩
  | 8 => ⟨S512x512, .f32⟩
  | 9 => ⟨S512x512, .f32⟩
  | 10 => ⟨S16x512x1, .f32⟩
  | 11 => ⟨S16x512x512, .f32⟩
  | 12 => ⟨S16x512x512, .f32⟩
  | 13 => ⟨S_, .f32⟩
  | 14 => ⟨S16x512, .f32⟩
  | 15 => ⟨S_, .f32⟩
  | 16 => ⟨S16, .f32⟩
  | 17 => ⟨S16x1, .f32⟩
  | 18 => ⟨S_, .f32⟩
  | 19 => ⟨S16x1, .f32⟩
  | 20 => ⟨S16x1, .f32⟩
  | 21 => ⟨S16x512, .f32⟩
  | 22 => ⟨S16x512, .f32⟩
  | 23 => ⟨S16x4x512, .f32⟩
  | 24 => ⟨S64x512, .f32⟩
  | 25 => ⟨S64x512, .f32⟩
  | 26 => ⟨S64x1, .i32⟩
  | 27 => ⟨S64, .i32⟩
  | 28 => ⟨S_, .i32⟩
  | 29 => ⟨S64, .i32⟩
  | 30 => ⟨S64, .i1⟩
  | 31 => ⟨S_, .i32⟩
  | 32 => ⟨S64, .i32⟩
  | 33 => ⟨S64, .i32⟩
  | 34 => ⟨S64, .i32⟩
  | 35 => ⟨S64x1, .i32⟩
  | 36 => ⟨S1, .i32⟩
  | 37 => ⟨S_, .i32⟩
  | 38 => ⟨S64x1, .i32⟩
  | 39 => ⟨S64x1, .i1⟩
  | 40 => ⟨S1x1, .i32⟩
  | 41 => ⟨S64x1, .i32⟩
  | 42 => ⟨S64x1, .i1⟩
  | 43 => ⟨S64x1, .i1⟩
  | 44 => ⟨S_, .i1⟩
  | 45 => ⟨S64, .i1⟩
  | 46 => ⟨S64x512, .f32⟩
  | 47 => ⟨S64x512, .i1⟩
  | 48 => ⟨S_, .f32⟩
  | 49 => ⟨S64x512, .f32⟩
  | 50 => ⟨S64x512, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S1x512, .f32⟩
  | 65 => ⟨S512, .f32⟩
  | 66 => ⟨S1x512, .f32⟩
  | 67 => ⟨S64x512, .f32⟩
  | 68 => ⟨S64x512, .f32⟩
  | 69 => ⟨S64x512, .f32⟩
  | 70 => ⟨S64x512, .f32⟩
  | 71 => ⟨S64x512, .f32⟩
  | 72 => ⟨S512x64, .f32⟩
  | 73 => ⟨S5000, .i32⟩
  | 74 => ⟨S5000x1, .i32⟩
  | 75 => ⟨S5000x128, .i32⟩
  | 76 => ⟨S1x64, .f32⟩
  | 77 => ⟨S4x64, .f32⟩
  | 78 => ⟨S4x64, .i32⟩
  | 79 => ⟨S64x4, .f32⟩
  | 80 => ⟨S64x4, .i32⟩
  | 81 => ⟨S64, .f32⟩
  | 82 => ⟨S64x1, .f32⟩
  | 83 => ⟨S64x4, .f32⟩
  | 84 => ⟨S64x4, .f32⟩
  | 85 => ⟨S_, .i32⟩
  | 86 => ⟨S64, .i32⟩
  | 87 => ⟨S64, .i1⟩
  | 88 => ⟨S4, .i32⟩
  | 89 => ⟨S_, .i32⟩
  | 90 => ⟨S4, .i32⟩
  | 91 => ⟨S4, .i1⟩
  | 92 => ⟨S_, .f32⟩
  | 93 => ⟨S_, .f32⟩
  | 94 => ⟨S4, .f32⟩
  | 95 => ⟨S4, .f32⟩
  | 96 => ⟨S4, .f32⟩
  | 97 => ⟨S64x1, .i1⟩
  | 98 => ⟨S1x4, .f32⟩
  | 99 => ⟨S1x4, .f32⟩
  | 100 => ⟨S64x4, .i1⟩
  | 101 => ⟨S64x4, .f32⟩
  | 102 => ⟨S64x4, .f32⟩
  | 103 => ⟨S64x1, .i1⟩
  | 104 => ⟨S_, .i32⟩
  | 105 => ⟨S_, .i32⟩
  | 106 => ⟨S64x4, .i1⟩
  | 107 => ⟨S64x4, .i32⟩
  | 108 => ⟨S64x4, .i32⟩
  | 109 => ⟨S64x4, .f32⟩
  | 110 => ⟨S64x4, .f32⟩
  | 111 => ⟨S_, .i32⟩
  | 112 => ⟨S_, .i32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S64x4, .f32⟩
  | 122 => ⟨S64x4, .f32⟩
  | 123 => ⟨S16x16, .f32⟩
  | 124 => ⟨S16x4, .f32⟩
  | 125 => ⟨S16x4, .i32⟩
  | 126 => ⟨S_, .i32⟩
  | 127 => ⟨S_, .i32⟩
  | _ => ⟨S_, .i32⟩

abbrev hbmTy0_1 (i : Nat) : BufTy := match i % 128 with
  | 0 => ⟨S16x4, .i32⟩
  | 1 => ⟨S16x4, .i32⟩
  | 2 => ⟨S16x4, .i32⟩
  | 3 => ⟨S_, .i32⟩
  | 4 => ⟨S16x4, .i32⟩
  | 5 => ⟨S16x4, .i1⟩
  | 6 => ⟨S16x4, .i32⟩
  | 7 => ⟨S16x4, .i32⟩
  | 8 => ⟨S_, .i32⟩
  | 9 => ⟨S16x4, .i32⟩
  | 10 => ⟨S16x4, .i1⟩
  | 11 => ⟨S16x4, .i1⟩
  | 12 => ⟨S_, .i32⟩
  | 13 => ⟨S16x4, .i32⟩
  | 14 => ⟨S16x4, .i32⟩
  | 15 => ⟨S16x4, .i32⟩
  | 16 => ⟨S16x16, .i32⟩
  | 17 => ⟨S_, .i32⟩
  | 18 => ⟨S16x4, .i32⟩
  | 19 => ⟨S16x4, .i1⟩
  | 20 => ⟨S_, .i32⟩
  | 21 => ⟨S16x4, .i32⟩
  | 22 => ⟨S16x4, .i32⟩
  | 23 => ⟨S16x4, .i32⟩
  | 24 => ⟨S16x4x1, .i32⟩
  | 25 => ⟨S1, .i32⟩
  | 26 => ⟨S_, .i32⟩
  | 27 => ⟨S16x4x1, .i32⟩
  | 28 => ⟨S16x4x1, .i1⟩
  | 29 => ⟨S1x1x1, .i32⟩
  | 30 => ⟨S16x4x1, .i32⟩
  | 31 => ⟨S16x4x1, .i1⟩
  | 32 => ⟨S16x4x1, .i1⟩
  | 33 => ⟨S_, .i1⟩
  | 34 => ⟨S16x4, .i1⟩
  | 35 => ⟨S16x4, .i32⟩
  | 36 => ⟨S_, .i32⟩
  | 37 => ⟨S16x4, .i32⟩
  | 38 => ⟨S16x4, .i32⟩
  | 39 => ⟨S16x16, .f32⟩
  | 40 => ⟨S_, .i32⟩
  | 41 => ⟨S16x4, .i32⟩
  | 42 => ⟨S16x4, .i1⟩
  | 43 => ⟨S_, .i32⟩
  | 44 => ⟨S16x4, .i32⟩
  | 45 => ⟨S16x4, .i32⟩
  | 46 => ⟨S16x4, .i32⟩
  | 47 => ⟨S16x4x1, .i32⟩
  | 48 => ⟨S1, .i32⟩
  | 49 => ⟨S_, .i32⟩
  | 50 => ⟨S16x4x1, .i32⟩
  | 51 => ⟨S16x4x1, .i1⟩
  | 52 => ⟨S1x1x1, .i32⟩
  | 53 => ⟨S16x4x1, .i32⟩
  | 54 => ⟨S16x4x1, .i1⟩
  | 55 => ⟨S16x4x1, .i1⟩
  | 56 => ⟨S_, .i1⟩
  | 57 => ⟨S16x4, .i1⟩
  | 58 => ⟨S16x4, .f32⟩
  | 59 => ⟨S_, .f32⟩
  | 60 => ⟨S16x4, .f32⟩
  | 61 => ⟨S16x4, .f32⟩
  | 62 => ⟨S64x1, .f32⟩
  | 63 => ⟨S16, .i32⟩
  | 64 => ⟨S16x1, .i32⟩
  | 65 => ⟨S_, .i32⟩
  | 66 => ⟨S16x1, .i32⟩
  | 67 => ⟨S16x1, .i32⟩
  | 68 => ⟨S16x4, .i32⟩
  | 69 => ⟨S16x4, .i32⟩
  | 70 => ⟨S64, .i32⟩
  | 71 => ⟨S_, .i32⟩
  | 72 => ⟨S64, .i32⟩
  | 73 => ⟨S64, .i1⟩
  | 74 => ⟨S_, .i32⟩
  | 75 => ⟨S64, .i32⟩
  | 76 => ⟨S64, .i32⟩
  | 77 => ⟨S64, .i32⟩
  | 78 => ⟨S64x1, .i32⟩
  | 79 => ⟨S64x7, .i32⟩
  | 80 => ⟨S64x1, .i32⟩
  | 81 => ⟨S64x8, .i32⟩
  | 82 => ⟨S_, .i32⟩
  | 83 => ⟨S64, .i32⟩
  | 84 => ⟨S64, .i1⟩
  | 85 => ⟨S_, .i32⟩
  | 86 => ⟨S64, .i32⟩
  | 87 => ⟨S64, .i32⟩
  | 88 => ⟨S64, .i32⟩
  | 89 => ⟨S64x1, .i32⟩
  | 90 => ⟨S64, .i32⟩
  | 91 => ⟨S64, .i32⟩
  | 92 => ⟨S_, .i32⟩
  | 93 => ⟨S64, .i32⟩
  | 94 => ⟨S64, .i1⟩
  | 95 => ⟨S64, .i32⟩
  | 96 => ⟨S64, .i32⟩
  | _ => ⟨S_, .i32⟩

abbrev hbmTy (i : Nat) : BufTy := match i / 128 with
  | 0 => hbmTy0_0 i
  | 1 => hbmTy0_1 i
  | _ => ⟨S_, .i32⟩

abbrev bufTy : (tb : Table) → Fin (tcTables nBuf tb) → BufTy
  | .hbm, ⟨i, _⟩ => hbmTy i
  | .local _ .vmem, ⟨0, _⟩ => ⟨S5000x128, .i32⟩
  | .local _ .vmem, ⟨1, _⟩ => ⟨S512x64, .f32⟩
  | .local _ .vmem, ⟨2, _⟩ => ⟨S10000x512, .f32⟩
  | .local _ .vmem, ⟨3, _⟩ => ⟨S10000x512, .f32⟩
  | .local _ .vmem, ⟨4, _⟩ => ⟨S1x64, .f32⟩
  | .local _ .vmem, ⟨5, _⟩ => ⟨S4x64, .f32⟩
  | .local _ .vmem, ⟨6, _⟩ => ⟨S4x64, .i32⟩
  | .local _ .vmem, ⟨7, _⟩ => ⟨S10x128, .f32⟩
  | .local _ .vmem, ⟨8, _⟩ => ⟨S10x128, .f32⟩
  | .local _ .vmem, ⟨9, _⟩ => ⟨S40x128, .f32⟩
  | .local _ .vmem, ⟨10, _⟩ => ⟨S40x128, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v15 : Ref sig .tc := ⟨.hbm, 50, rfl⟩
abbrev main_c : Ref sig .tc := ⟨.hbm, 51, rfl⟩
abbrev main_v16 : Ref sig .tc := ⟨.hbm, 52, rfl⟩
abbrev main_c_2 : Ref sig .tc := ⟨.hbm, 53, rfl⟩
abbrev main_v17 : Ref sig .tc := ⟨.hbm, 54, rfl⟩
abbrev main_v18 : Ref sig .tc := ⟨.hbm, 55, rfl⟩
abbrev main_c_3 : Ref sig .tc := ⟨.hbm, 56, rfl⟩
abbrev main_c_4 : Ref sig .tc := ⟨.hbm, 57, rfl⟩
abbrev main_v19 : Ref sig .tc := ⟨.hbm, 58, rfl⟩
abbrev main_c_5 : Ref sig .tc := ⟨.hbm, 59, rfl⟩
abbrev main_c_6 : Ref sig .tc := ⟨.hbm, 60, rfl⟩
abbrev main_v20 : Ref sig .tc := ⟨.hbm, 61, rfl⟩
abbrev main_c_7 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34_0 : Ref sig .tc := ⟨.hbm, 76, rfl⟩
abbrev main_v34_1 : Ref sig .tc := ⟨.hbm, 77, rfl⟩
abbrev main_v34_2 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_c_8 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_9 : Ref sig .tc := ⟨.hbm, 89, rfl⟩
abbrev main_v44 : Ref sig .tc := ⟨.hbm, 90, rfl⟩
abbrev main_v45 : Ref sig .tc := ⟨.hbm, 91, rfl⟩
abbrev main_cst_10 : Ref sig .tc := ⟨.hbm, 92, rfl⟩
abbrev main_cst_11 : Ref sig .tc := ⟨.hbm, 93, rfl⟩
abbrev main_call1_v0 : Ref sig .tc := ⟨.hbm, 94, rfl⟩
abbrev main_call1_v1 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v49 : Ref sig .tc := ⟨.hbm, 102, rfl⟩
abbrev main_v50 : Ref sig .tc := ⟨.hbm, 103, rfl⟩
abbrev main_c_12 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_c_13 : Ref sig .tc := ⟨.hbm, 111, rfl⟩
abbrev main_v54 : Ref sig .tc := ⟨.hbm, 112, rfl⟩
abbrev main_v55 : Ref sig .tc := ⟨.hbm, 113, rfl⟩
abbrev main_cst_14 : Ref sig .tc := ⟨.hbm, 114, rfl⟩
abbrev main_v56 : Ref sig .tc := ⟨.hbm, 115, rfl⟩
abbrev main_cst_15 : Ref sig .tc := ⟨.hbm, 116, rfl⟩
abbrev main_v57 : Ref sig .tc := ⟨.hbm, 117, rfl⟩
abbrev main_cst_16 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_values : Ref sig .tc := ⟨.hbm, 124, rfl⟩
abbrev main_indices : Ref sig .tc := ⟨.hbm, 125, rfl⟩
abbrev main_c_17 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_c : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_c_0 : Ref sig .tc := ⟨.hbm, 140, rfl⟩
abbrev main_call4_v12 : Ref sig .tc := ⟨.hbm, 141, rfl⟩
abbrev main_call4_v13 : Ref sig .tc := ⟨.hbm, 142, rfl⟩
abbrev main_v63 : Ref sig .tc := ⟨.hbm, 143, rfl⟩
abbrev main_v64 : Ref sig .tc := ⟨.hbm, 144, rfl⟩
abbrev main_call5_c : Ref sig .tc := ⟨.hbm, 145, rfl⟩
abbrev main_call5_v0 : Ref sig .tc := ⟨.hbm, 146, rfl⟩
abbrev main_call5_v1 : Ref sig .tc := ⟨.hbm, 147, rfl⟩
abbrev main_call5_c_0 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_call5_v5 : Ref sig .tc := ⟨.hbm, 152, rfl⟩
abbrev main_call5_c_1 : Ref sig .tc := ⟨.hbm, 153, rfl⟩
abbrev main_call5_c_2 : Ref sig .tc := ⟨.hbm, 154, rfl⟩
abbrev main_call5_v6 : Ref sig .tc := ⟨.hbm, 155, rfl⟩
abbrev main_call5_v7 : Ref sig .tc := ⟨.hbm, 156, rfl⟩
abbrev main_call5_v8 : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_c_3 : Ref sig .tc := ⟨.hbm, 161, rfl⟩
abbrev main_call5_v12 : Ref sig .tc := ⟨.hbm, 162, rfl⟩
abbrev main_call5_v13 : Ref sig .tc := ⟨.hbm, 163, rfl⟩
abbrev main_call5_c_4 : Ref sig .tc := ⟨.hbm, 164, rfl⟩
abbrev main_call5_v14 : Ref sig .tc := ⟨.hbm, 165, rfl⟩
abbrev main_v65 : Ref sig .tc := ⟨.hbm, 166, rfl⟩
abbrev main_v66 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_cst : Ref sig .tc := ⟨.hbm, 187, rfl⟩
abbrev main_call6_v14 : Ref sig .tc := ⟨.hbm, 188, rfl⟩
abbrev main_v67 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_c_18 : Ref sig .tc := ⟨.hbm, 193, rfl⟩
abbrev main_v71 : Ref sig .tc := ⟨.hbm, 194, rfl⟩
abbrev main_v72 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩
abbrev main_c_19 : Ref sig .tc := ⟨.hbm, 199, rfl⟩
abbrev main_v76 : Ref sig .tc := ⟨.hbm, 200, rfl⟩
abbrev main_v77 : Ref sig .tc := ⟨.hbm, 201, rfl⟩
abbrev main_c_20 : Ref sig .tc := ⟨.hbm, 202, rfl⟩
abbrev main_v78 : Ref sig .tc := ⟨.hbm, 203, rfl⟩
abbrev main_v79 : Ref sig .tc := ⟨.hbm, 204, rfl⟩
abbrev main_v80 : Ref sig .tc := ⟨.hbm, 205, rfl⟩
abbrev main_v81 : Ref sig .tc := ⟨.hbm, 206, rfl⟩
abbrev main_v82 : Ref sig .tc := ⟨.hbm, 207, rfl⟩
abbrev main_v83 : Ref sig .tc := ⟨.hbm, 208, rfl⟩
abbrev main_v84 : Ref sig .tc := ⟨.hbm, 209, rfl⟩
abbrev main_c_21 : Ref sig .tc := ⟨.hbm, 210, rfl⟩
abbrev main_v85 : Ref sig .tc := ⟨.hbm, 211, rfl⟩
abbrev main_v86 : Ref sig .tc := ⟨.hbm, 212, rfl⟩
abbrev main_c_22 : Ref sig .tc := ⟨.hbm, 213, rfl⟩
abbrev main_v87 : Ref sig .tc := ⟨.hbm, 214, rfl⟩
abbrev main_v88 : Ref sig .tc := ⟨.hbm, 215, rfl⟩
abbrev main_v89 : Ref sig .tc := ⟨.hbm, 216, rfl⟩
abbrev main_v90 : Ref sig .tc := ⟨.hbm, 217, rfl⟩
abbrev main_v91 : Ref sig .tc := ⟨.hbm, 218, rfl⟩
abbrev main_v92 : Ref sig .tc := ⟨.hbm, 219, rfl⟩
abbrev main_c_23 : Ref sig .tc := ⟨.hbm, 220, rfl⟩
abbrev main_v93 : Ref sig .tc := ⟨.hbm, 221, rfl⟩
abbrev main_v94 : Ref sig .tc := ⟨.hbm, 222, rfl⟩
abbrev main_v95 : Ref sig .tc := ⟨.hbm, 223, rfl⟩
abbrev main_v96 : Ref sig .tc := ⟨.hbm, 224, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![10], ![false]⟩

def k0_off1 (i : grid0.Coords) : Fin 2 → Nat :=
  let arg0 : BitVec 32 := BitVec.ofNat 32 (i 0).val
  let v20 : Index := Scalar.indexCast arg0
  let c0_10 : Index := 0#32
  ![v20.toNat, 0]
def k0_off2 (i : grid0.Coords) : Fin 2 → Nat :=
  let arg0 : BitVec 32 := BitVec.ofNat 32 (i 0).val
  let c4_i32 : BitVec 32 := 4#32
  let v97 : BitVec 32 := Scalar.muli arg0 c4_i32
  let v98 : Index := Scalar.indexCast v97
  let c0_30 : Index := 0#32
  ![v98.toNat, 0]
def k0_cond1 (i : grid0.Coords) : BitVec 1 :=
  let arg0 : BitVec 32 := BitVec.ofNat 32 (i 0).val
  let c9_i32 : BitVec 32 := 9#32
  let v112 : BitVec 1 := Scalar.cmpi .eq arg0 c9_i32
  let v113 : BitVec 32 := Scalar.extui v112
  let c0_i32_33 : BitVec 32 := 0#32
  let v114 : BitVec 1 := Scalar.cmpi .ne v113 c0_i32_33
  v114

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5000x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S_ : Shape := ⟨0, ![]⟩
abbrev S64x7 : Shape := ⟨2, ![64, 7]⟩
abbrev S64x1 : Shape := ⟨2, ![64, 1]⟩
abbrev S64 : Shape := ⟨1, ![64]⟩
abbrev S16x512x512 : Shape := ⟨3, ![16, 512, 512]⟩
abbrev S16x512 : Shape := ⟨2, ![16, 512]⟩
abbrev S100000x512 : Shape := ⟨2, ![100000, 512]⟩
abbrev S64x512 : Shape := ⟨2, ![64, 512]⟩
abbrev S512x512 : Shape := ⟨2, ![512, 512]⟩
abbrev S16x512x1 : Shape := ⟨3, ![16, 512, 1]⟩
abbrev S16 : Shape := ⟨1, ![16]⟩
abbrev S16x1 : Shape := ⟨2, ![16, 1]⟩
abbrev S16x4x512 : Shape := ⟨3, ![16, 4, 512]⟩
abbrev S1 : Shape := ⟨1, ![1]⟩
abbrev S1x1 : Shape := ⟨2, ![1, 1]⟩
abbrev S1x512 : Shape := ⟨2, ![1, 512]⟩
abbrev S512 : Shape := ⟨1, ![512]⟩
abbrev S512x100000 : Shape := ⟨2, ![512, 100000]⟩
abbrev S64x100000 : Shape := ⟨2, ![64, 100000]⟩
abbrev S100000 : Shape := ⟨1, ![100000]⟩
abbrev S1x100000 : Shape := ⟨2, ![1, 100000]⟩
abbrev S16x400000 : Shape := ⟨2, ![16, 400000]⟩
abbrev S16x4 : Shape := ⟨2, ![16, 4]⟩
abbrev S16x4x1 : Shape := ⟨3, ![16, 4, 1]⟩
abbrev S1x1x1 : Shape := ⟨3, ![1, 1, 1]⟩
abbrev S64x8 : Shape := ⟨2, ![64, 8]⟩

abbrev nBuf : Space → Nat
  | .hbm => 222
  | .vmem => 0
  | .smem => 0
  | _ => 0

abbrev hbmTy0_0 (i : Nat) : BufTy := match i % 128 with
  | 0 => ⟨S_, .i32⟩
  | 1 => ⟨S64x7, .i32⟩
  | 2 => ⟨S64x1, .f32⟩
  | 3 => ⟨S64, .i32⟩
  | 4 => ⟨S16x512x512, .f32⟩
  | 5 => ⟨S16x512, .f32⟩
  | 6 => ⟨S100000x512, .f32⟩
  | 7 => ⟨S64x512, .f32⟩
  | 8 => ⟨S512x512, .f32⟩
  | 9 => ⟨S512x512, .f32⟩
  | 10 => ⟨S16x512x1, .f32⟩
  | 11 => ⟨S16x512x512, .f32⟩
  | 12 => ⟨S16x512x512, .f32⟩
  | 13 => ⟨S_, .f32⟩
  | 14 => ⟨S16x512, .f32⟩
  | 15 => ⟨S_, .f32⟩
  | 16 => ⟨S16, .f32⟩
  | 17 => ⟨S16x1, .f32⟩
  | 18 => ⟨S_, .f32⟩
  | 19 => ⟨S16x1, .f32⟩
  | 20 => ⟨S16x1, .f32⟩
  | 21 => ⟨S16x512, .f32⟩
  | 22 => ⟨S16x512, .f32⟩
  | 23 => ⟨S16x4x512, .f32⟩
  | 24 => ⟨S64x512, .f32⟩
  | 25 => ⟨S64x1, .i32⟩
  | 26 => ⟨S64, .i32⟩
  | 27 => ⟨S_, .i32⟩
  | 28 => ⟨S64, .i32⟩
  | 29 => ⟨S64, .i1⟩
  | 30 => ⟨S_, .i32⟩
  | 31 => ⟨S64, .i32⟩
  | 32 => ⟨S64, .i32⟩
  | 33 => ⟨S64, .i32⟩
  | 34 => ⟨S64x1, .i32⟩
  | 35 => ⟨S1, .i32⟩
  | 36 => ⟨S_, .i32⟩
  | 37 => ⟨S64x1, .i32⟩
  | 38 => ⟨S64x1, .i1⟩
  | 39 => ⟨S1x1, .i32⟩
  | 40 => ⟨S64x1, .i32⟩
  | 41 => ⟨S64x1, .i1⟩
  | 42 => ⟨S64x1, .i1⟩
  | 43 => ⟨S_, .i1⟩
  | 44 => ⟨S64, .i1⟩
  | 45 => ⟨S64x512, .f32⟩
  | 46 => ⟨S64x512, .i1⟩
  | 47 => ⟨S_, .f32⟩
  | 48 => ⟨S64x512, .f32⟩
  | 49 => ⟨S64x512, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S1x512, .f32⟩
  | 64 => ⟨S512, .f32⟩
  | 65 => ⟨S1x512, .f32⟩
  | 66 => ⟨S64x512, .f32⟩
  | 67 => ⟨S64x512, .f32⟩
  | 68 => ⟨S64x512, .f32⟩
  | 69 => ⟨S64x512, .f32⟩
  | 70 => ⟨S64x512, .f32⟩
  | 71 => ⟨S64x512, .f32⟩
  | 72 => ⟨S512x100000, .f32⟩
  | 73 => ⟨S64x100000, .f32⟩
  | 74 => ⟨S_, .f32⟩
  | 75 => ⟨S64, .f32⟩
  | 76 => ⟨S_, .f32⟩
  | 77 => ⟨S64, .f32⟩
  | 78 => ⟨S64, .f32⟩
  | 79 => ⟨S64x1, .f32⟩
  | 80 => ⟨S64x100000, .f32⟩
  | 81 => ⟨S64x100000, .f32⟩
  | 82 => ⟨S64x100000, .f32⟩
  | 83 => ⟨S_, .f32⟩
  | 84 => ⟨S64, .f32⟩
  | 85 => ⟨S64x1, .f32⟩
  | 86 => ⟨S64x1, .f32⟩
  | 87 => ⟨S64x100000, .f32⟩
  | 88 => ⟨S64x100000, .f32⟩
  | 89 => ⟨S100000, .i32⟩
  | 90 => ⟨S_, .i32⟩
  | 91 => ⟨S100000, .i32⟩
  | 92 => ⟨S100000, .i1⟩
  | 93 => ⟨S_, .f32⟩
  | 94 => ⟨S_, .f32⟩
  | 95 => ⟨S100000, .f32⟩
  | 96 => ⟨S100000, .f32⟩
  | 97 => ⟨S100000, .f32⟩
  | 98 => ⟨S64x1, .i32⟩
  | 99 => ⟨S_, .i32⟩
  | 100 => ⟨S64x1, .i32⟩
  | 101 => ⟨S64x1, .i1⟩
  | 102 => ⟨S1x100000, .f32⟩
  | 103 => ⟨S1x100000, .f32⟩
  | 104 => ⟨S64x100000, .i1⟩
  | 105 => ⟨S64x100000, .f32⟩
  | 106 => ⟨S64x100000, .f32⟩
  | 107 => ⟨S_, .i32⟩
  | 108 => ⟨S_, .i32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S64x100000, .f32⟩
  | 117 => ⟨S64x100000, .f32⟩
  | 118 => ⟨S_, .f32⟩
  | 119 => ⟨S64x100000, .f32⟩
  | 120 => ⟨S64x100000, .f32⟩
  | 121 => ⟨S16x400000, .f32⟩
  | 122 => ⟨S16x4, .f32⟩
  | 123 => ⟨S16x4, .i32⟩
  | 124 => ⟨S_, .i32⟩
  | 125 => ⟨S_, .i32⟩
  | 126 => ⟨S16x4, .i32⟩
  | 127 => ⟨S16x4, .i32⟩
  | _ => ⟨S_, .i32⟩

abbrev hbmTy0_1 (i : Nat) : BufTy := match i % 128 with
  | 0 => ⟨S16x4, .i32⟩
  | 1 => ⟨S_, .i32⟩
  | 2 => ⟨S16x4, .i32⟩
  | 3 => ⟨S16x4, .i1⟩
  | 4 => ⟨S16x4, .i32⟩
  | 5 => ⟨S16x4, .i32⟩
  | 6 => ⟨S_, .i32⟩
  | 7 => ⟨S16x4, .i32⟩
  | 8 => ⟨S16x4, .i1⟩
  | 9 => ⟨S16x4, .i1⟩
  | 10 => ⟨S_, .i32⟩
  | 11 => ⟨S16x4, .i32⟩
  | 12 => ⟨S16x4, .i32⟩
  | 13 => ⟨S16x4, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S16x4, .i32⟩
  | 21 => ⟨S16x4, .i32⟩
  | 22 => ⟨S_, .i32⟩
  | 23 => ⟨S16x4, .i32⟩
  | 24 => ⟨S16x4, .i1⟩
  | 25 => ⟨S_, .i32⟩
  | 26 => ⟨S16x4, .i32⟩
  | 27 => ⟨S16x4, .i1⟩
  | 28 => ⟨S_, .i32⟩
  | 29 => ⟨S_, .i1⟩
  | 30 => ⟨S16x4, .i1⟩
  | 31 => ⟨S16x4, .i1⟩
  | 32 => ⟨S16x4, .i1⟩
  | 33 => ⟨S16x4, .i32⟩
  | 34 => ⟨S16x4, .i32⟩
  | 35 => ⟨S16x4, .i32⟩
  | 36 => ⟨S16, .i32⟩
  | 37 => ⟨S16x1, .i32⟩
  | 38 => ⟨S_, .i32⟩
  | 39 => ⟨S16x1, .i32⟩
  | 40 => ⟨S16x1, .i32⟩
  | 41 => ⟨S16x4, .i32⟩
  | 42 => ⟨S16x4, .i32⟩
  | 43 => ⟨S64, .i32⟩
  | 44 => ⟨S16x400000, .f32⟩
  | 45 => ⟨S_, .i32⟩
  | 46 => ⟨S16x4, .i32⟩
  | 47 => ⟨S16x4, .i1⟩
  | 48 => ⟨S_, .i32⟩
  | 49 => ⟨S16x4, .i32⟩
  | 50 => ⟨S16x4, .i32⟩
  | 51 => ⟨S16x4, .i32⟩
  | 52 => ⟨S16x4x1, .i32⟩
  | 53 => ⟨S1, .i32⟩
  | 54 => ⟨S_, .i32⟩
  | 55 => ⟨S16x4x1, .i32⟩
  | 56 => ⟨S16x4x1, .i1⟩
  | 57 => ⟨S1x1x1, .i32⟩
  | 58 => ⟨S16x4x1, .i32⟩
  | 59 => ⟨S16x4x1, .i1⟩
  | 60 => ⟨S16x4x1, .i1⟩
  | 61 => ⟨S_, .i1⟩
  | 62 => ⟨S16x4, .i1⟩
  | 63 => ⟨S16x4, .f32⟩
  | 64 => ⟨S_, .f32⟩
  | 65 => ⟨S16x4, .f32⟩
  | 66 => ⟨S16x4, .f32⟩
  | 67 => ⟨S64x1, .f32⟩
  | 68 => ⟨S_, .i32⟩
  | 69 => ⟨S64, .i32⟩
  | 70 => ⟨S64, .i1⟩
  | 71 => ⟨S_, .i32⟩
  | 72 => ⟨S64, .i32⟩
  | 73 => ⟨S64, .i32⟩
  | 74 => ⟨S64, .i32⟩
  | 75 => ⟨S64x1, .i32⟩
  | 76 => ⟨S64x7, .i32⟩
  | 77 => ⟨S64x1, .i32⟩
  | 78 => ⟨S64x8, .i32⟩
  | 79 => ⟨S_, .i32⟩
  | 80 => ⟨S64, .i32⟩
  | 81 => ⟨S64, .i1⟩
  | 82 => ⟨S_, .i32⟩
  | 83 => ⟨S64, .i32⟩
  | 84 => ⟨S64, .i32⟩
  | 85 => ⟨S64, .i32⟩
  | 86 => ⟨S64x1, .i32⟩
  | 87 => ⟨S64, .i32⟩
  | 88 => ⟨S64, .i32⟩
  | 89 => ⟨S_, .i32⟩
  | 90 => ⟨S64, .i32⟩
  | 91 => ⟨S64, .i1⟩
  | 92 => ⟨S64, .i32⟩
  | 93 => ⟨S64, .i32⟩
  | _ => ⟨S_, .i32⟩

abbrev hbmTy (i : Nat) : BufTy := match i / 128 with
  | 0 => hbmTy0_0 i
  | 1 => hbmTy0_1 i
  | _ => ⟨S_, .i32⟩

abbrev bufTy : (tb : Table) → Fin (tcTables nBuf tb) → BufTy
  | .hbm, ⟨i, _⟩ => hbmTy i
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v14 : Ref sig .tc := ⟨.hbm, 49, rfl⟩
abbrev main_c : Ref sig .tc := ⟨.hbm, 50, rfl⟩
abbrev main_v15 : Ref sig .tc := ⟨.hbm, 51, rfl⟩
abbrev main_c_2 : Ref sig .tc := ⟨.hbm, 52, rfl⟩
abbrev main_v16 : Ref sig .tc := ⟨.hbm, 53, rfl⟩
abbrev main_v17 : Ref sig .tc := ⟨.hbm, 54, rfl⟩
abbrev main_c_3 : Ref sig .tc := ⟨.hbm, 55, rfl⟩
abbrev main_c_4 : Ref sig .tc := ⟨.hbm, 56, rfl⟩
abbrev main_v18 : Ref sig .tc := ⟨.hbm, 57, rfl⟩
abbrev main_c_5 : Ref sig .tc := ⟨.hbm, 58, rfl⟩
abbrev main_c_6 : Ref sig .tc := ⟨.hbm, 59, rfl⟩
abbrev main_v19 : Ref sig .tc := ⟨.hbm, 60, rfl⟩
abbrev main_c_7 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_call1_cst : Ref sig .tc := ⟨.hbm, 74, rfl⟩
abbrev main_call1_v0 : Ref sig .tc := ⟨.hbm, 75, rfl⟩
abbrev main_call1_cst_0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_cst_1 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_v32 : Ref sig .tc := ⟨.hbm, 88, rfl⟩
abbrev main_v33 : Ref sig .tc := ⟨.hbm, 89, rfl⟩
abbrev main_c_8 : Ref sig .tc := ⟨.hbm, 90, rfl⟩
abbrev main_v34 : Ref sig .tc := ⟨.hbm, 91, rfl⟩
abbrev main_v35 : Ref sig .tc := ⟨.hbm, 92, rfl⟩
abbrev main_cst_9 : Ref sig .tc := ⟨.hbm, 93, rfl⟩
abbrev main_cst_10 : Ref sig .tc := ⟨.hbm, 94, rfl⟩
abbrev main_call2_v0 : Ref sig .tc := ⟨.hbm, 95, rfl⟩
abbrev main_call2_v1 : Ref sig .tc := ⟨.hbm, 96, rfl⟩
abbrev main_v36 : Ref sig .tc := ⟨.hbm, 97, rfl⟩
abbrev main_v37 : Ref sig .tc := ⟨.hbm, 98, rfl⟩
abbrev main_c_11 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v41 : Ref sig .tc := ⟨.hbm, 106, rfl⟩
abbrev main_c_12 : Ref sig .tc := ⟨.hbm, 107, rfl⟩
abbrev main_v42 : Ref sig .tc := ⟨.hbm, 108, rfl⟩
abbrev main_v43 : Ref sig .tc := ⟨.hbm, 109, rfl⟩
abbrev main_cst_13 : Ref sig .tc := ⟨.hbm, 110, rfl⟩
abbrev main_v44 : Ref sig .tc := ⟨.hbm, 111, rfl⟩
abbrev main_cst_14 : Ref sig .tc := ⟨.hbm, 112, rfl⟩
abbrev main_v45 : Ref sig .tc := ⟨.hbm, 113, rfl⟩
abbrev main_cst_15 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_values : Ref sig .tc := ⟨.hbm, 122, rfl⟩
abbrev main_indices : Ref sig .tc := ⟨.hbm, 123, rfl⟩
abbrev main_c_16 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_c : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_c_0 : Ref sig .tc := ⟨.hbm, 138, rfl⟩
abbrev main_call4_v12 : Ref sig .tc := ⟨.hbm, 139, rfl⟩
abbrev main_call4_v13 : Ref sig .tc := ⟨.hbm, 140, rfl⟩
abbrev main_v53 : Ref sig .tc := ⟨.hbm, 141, rfl⟩
abbrev main_c_17 : Ref sig .tc := ⟨.hbm, 142, rfl⟩
abbrev main_call5_v0 : Ref sig .tc := ⟨.hbm, 143, rfl⟩
abbrev main_call5_c : Ref sig .tc := ⟨.hbm, 144, rfl⟩
abbrev main_call5_v1 : Ref sig .tc := ⟨.hbm, 145, rfl⟩
abbrev main_call5_c_0 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_c_1 : Ref sig .tc := ⟨.hbm, 150, rfl⟩
abbrev main_call5_v5 : Ref sig .tc := ⟨.hbm, 151, rfl⟩
abbrev main_call5_v6 : Ref sig .tc := ⟨.hbm, 152, rfl⟩
abbrev main_call5_c_2 : Ref sig .tc := ⟨.hbm, 153, rfl⟩
abbrev main_call5_v7 : Ref sig .tc := ⟨.hbm, 154, rfl⟩
abbrev main_call5_v8 : Ref sig .tc := ⟨.hbm, 155, rfl⟩
abbrev main_call5_c_3 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_v12 : Ref sig .tc := ⟨.hbm, 160, rfl⟩
abbrev main_call5_v13 : Ref sig .tc := ⟨.hbm, 161, rfl⟩
abbrev main_call5_v14 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_c_18 : Ref sig .tc := ⟨.hbm, 166, rfl⟩
abbrev main_v57 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_v61 : Ref sig .tc := ⟨.hbm, 171, rfl⟩
abbrev main_v62 : Ref sig .tc := ⟨.hbm, 172, rfl⟩
abbrev main_call6_c : Ref sig .tc := ⟨.hbm, 173, rfl⟩
abbrev main_call6_v0 : Ref sig .tc := ⟨.hbm, 174, rfl⟩
abbrev main_call6_v1 : Ref sig .tc := ⟨.hbm, 175, rfl⟩
abbrev main_call6_c_0 : Ref sig .tc := ⟨.hbm, 176, rfl⟩
abbrev main_call6_v2 : Ref sig .tc := ⟨.hbm, 177, rfl⟩
abbrev main_call6_v3 : Ref sig .tc := ⟨.hbm, 178, rfl⟩
abbrev main_call6_v4 : Ref sig .tc := ⟨.hbm, 179, rfl⟩
abbrev main_call6_v5 : Ref sig .tc := ⟨.hbm, 180, rfl⟩
abbrev main_call6_c_1 : Ref sig .tc := ⟨.hbm, 181, rfl⟩
abbrev main_call6_c_2 : Ref sig .tc := ⟨.hbm, 182, rfl⟩
abbrev main_call6_v6 : Ref sig .tc := ⟨.hbm, 183, rfl⟩
abbrev main_call6_v7 : Ref sig .tc := ⟨.hbm, 184, rfl⟩
abbrev main_call6_v8 : Ref sig .tc := ⟨.hbm, 185, rfl⟩
abbrev main_call6_v9 : Ref sig .tc := ⟨.hbm, 186, rfl⟩
abbrev main_call6_v10 : Ref sig .tc := ⟨.hbm, 187, rfl⟩
abbrev main_call6_v11 : Ref sig .tc := ⟨.hbm, 188, rfl⟩
abbrev main_call6_c_3 : Ref sig .tc := ⟨.hbm, 189, rfl⟩
abbrev main_call6_v12 : Ref sig .tc := ⟨.hbm, 190, rfl⟩
abbrev main_call6_v13 : Ref sig .tc := ⟨.hbm, 191, rfl⟩
abbrev main_call6_cst : Ref sig .tc := ⟨.hbm, 192, rfl⟩
abbrev main_call6_v14 : Ref sig .tc := ⟨.hbm, 193, rfl⟩
abbrev main_v63 : Ref sig .tc := ⟨.hbm, 194, rfl⟩
abbrev main_v64 : Ref sig .tc := ⟨.hbm, 195, rfl⟩
abbrev main_c_19 : Ref sig .tc := ⟨.hbm, 196, rfl⟩
abbrev main_v65 : Ref sig .tc := ⟨.hbm, 197, rfl⟩
abbrev main_v66 : Ref sig .tc := ⟨.hbm, 198, rfl⟩
abbrev main_c_20 : Ref sig .tc := ⟨.hbm, 199, rfl⟩
abbrev main_v67 : Ref sig .tc := ⟨.hbm, 200, rfl⟩
abbrev main_v68 : Ref sig .tc := ⟨.hbm, 201, rfl⟩
abbrev main_v69 : Ref sig .tc := ⟨.hbm, 202, rfl⟩
abbrev main_v70 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_c_21 : Ref sig .tc := ⟨.hbm, 207, rfl⟩
abbrev main_v74 : Ref sig .tc := ⟨.hbm, 208, rfl⟩
abbrev main_v75 : Ref sig .tc := ⟨.hbm, 209, rfl⟩
abbrev main_c_22 : Ref sig .tc := ⟨.hbm, 210, rfl⟩
abbrev main_v76 : Ref sig .tc := ⟨.hbm, 211, rfl⟩
abbrev main_v77 : Ref sig .tc := ⟨.hbm, 212, rfl⟩
abbrev main_v78 : Ref sig .tc := ⟨.hbm, 213, rfl⟩
abbrev main_v79 : Ref sig .tc := ⟨.hbm, 214, rfl⟩
abbrev main_v80 : Ref sig .tc := ⟨.hbm, 215, rfl⟩
abbrev main_v81 : Ref sig .tc := ⟨.hbm, 216, rfl⟩
abbrev main_c_23 : Ref sig .tc := ⟨.hbm, 217, rfl⟩
abbrev main_v82 : Ref sig .tc := ⟨.hbm, 218, rfl⟩
abbrev main_v83 : Ref sig .tc := ⟨.hbm, 219, rfl⟩
abbrev main_v84 : Ref sig .tc := ⟨.hbm, 220, rfl⟩
abbrev main_v85 : Ref sig .tc := ⟨.hbm, 221, rfl⟩

abbrev nD : Nat := 1
abbrev τ : Topo := Topo.v7x

variable {F : FTy → Type} [FloatOps F]
-- ==== Proof.Vals.lean ====
/-
  What one grid point of the vocabulary pass computes, and what the last point makes of the four tables, as
  plain functions of the blocks read: names for the kernel's own intermediate values.
-/
module

public import proofs.«01_k».proof.Proof.Gen.KernelIdeal.Skeleton
public import Idealize.ShloMosaic.Lib.VecWindow
public import Idealize.ShloMosaic.Lib.Pointwise.Index

@[expose] public section

noncomputable section

namespace Cert.KernelIdeal.Vocab

open Idealize.ShloMosaic Idealize.ShloMosaic.TcCoe Idealize.ShloMosaic.VecWindow
open Cert.KernelIdeal.Gen

variable {F : FTy → Type} [FloatOps F]

/-- The first half of a chunk of the table. -/
def lo (x2 : Vec F S10000x512 .f32) : Vec F S5000x512 .f32 := window x2 ![0, 0] S5000x512.size inb_S10000x512_S5000x512_0_0
/-- The second half of a chunk of the table. -/
def hi (x2 : Vec F S10000x512 .f32) : Vec F S5000x512 .f32 := window x2 ![5000, 0] S5000x512.size inb_S10000x512_S5000x512_5000_0

/-- The chunk's logits: lane `l < 64` row `l` against the first half, lane `64 + l` the same row against the second half. -/
def lg (x1 : Vec F S512x64 .f32) (x2 : Vec F S10000x512 .f32) : FVec F S5000x128 .f32 := k0_pay29 (lo x2) x1 (hi x2) x1
/-- Where the lanes' maxima stand. -/
def firstAt (x1 : Vec F S512x64 .f32) (x2 : Vec F S10000x512 .f32) : IVec S5000x128 1 :=
  k0_pay33 (lo x2) x1 (hi x2) x1
/-- The row of lane maxima. -/
def rowMax (x1 : Vec F S512x64 .f32) (x2 : Vec F S10000x512 .f32) : FVec F S1x128 .f32 := k0_pay31 (lo x2) x1 (hi x2) x1
/-- The row of lane sums of exponentials. -/
def rowSum (x1 : Vec F S512x64 .f32) (x2 : Vec F S10000x512 .f32) : FVec F S1x128 .f32 := k0_pay32 (lo x2) x1 (hi x2) x1
/-- The four rows of the lanes' largest logits. -/
def blkVal (x0 : Vec F S5000x128 .i32) (x1 : Vec F S512x64 .f32) (x2 : Vec F S10000x512 .f32) : FVec F S4x128 .f32 :=
  k0_pay1 (k0_pay30 (lo x2) x1 (hi x2) x1) (k0_pay37 (k0_pay27 x0) (lg x1 x2) (firstAt x1 x2) 5000#32)
    (k0_pay41 (k0_pay27 x0) (lg x1 x2) (firstAt x1 x2) 5000#32) (k0_pay45 (k0_pay27 x0) (lg x1 x2) (firstAt x1 x2) 5000#32)
/-- The four rows of their vocabulary positions, at chunk `n`. -/
def blkIdx (n : BitVec 32) (x0 : Vec F S5000x128 .i32) (x1 : Vec F S512x64 .f32) (x2 : Vec F S10000x512 .f32) : IVec S4x128 32 :=
  k0_pay2 n (k0_pay27 x0) k0_pay28 (k0_pay35 n (k0_pay27 x0) k0_pay28 (firstAt x1 x2) 5000#32)
    (k0_pay39 n (k0_pay27 x0) k0_pay28 (lg x1 x2) (firstAt x1 x2) 5000#32)
    (k0_pay43 n (k0_pay27 x0) k0_pay28 (lg x1 x2) (firstAt x1 x2) 5000#32)
    (k0_pay44 (k0_pay27 x0) (lg x1 x2) (firstAt x1 x2) 5000#32) (k0_pay46 (k0_pay27 x0) (lg x1 x2) (firstAt x1 x2) 5000#32)

/-- Four rows stacked. -/
def rows4 {α : Type} (r0 r1 r2 r3 : S1x64.Idx → α) : S4x64.Idx → α := fun i =>
  (![r0, r1, r2, r3] : Fin 4 → S1x64.Idx → α) (i 0) (ix2 (n0 := 1) (n1 := 64) 0 (i 1))

/-- The logarithms of the sums, from the tables of maxima and sums. -/
def outLse (sm ss : Vec F S10x128 .f32) : FVec F S1x64 .f32 := k0_pay8 sm ss

/-- The four largest candidates of each row, from the tables of candidates. -/
def outVal (sv : Vec F S40x128 .f32) (si : Vec F S40x128 .i32) : FVec F S4x64 .f32 :=
  rows4 (k0_pay14 (k0_pay11 sv)) (k0_pay20 (k0_pay9 sv) (k0_pay10 si) (k0_pay12 sv) (k0_pay13 sv si))
    (k0_pay26 (k0_pay9 sv) (k0_pay10 si) (k0_pay12 sv) (k0_pay13 sv si))
    (k0_pay6 (k0_pay10 si) (k0_pay22 (k0_pay9 sv) (k0_pay10 si) (k0_pay12 sv) (k0_pay13 sv si))
      (k0_pay24 (k0_pay9 sv) (k0_pay10 si) (k0_pay12 sv) (k0_pay13 sv si))
      (k0_pay25 (k0_pay9 sv) (k0_pay10 si) (k0_pay12 sv) (k0_pay13 sv si)))

/-- Their vocabulary positions. -/
def outIdx (sv : Vec F S40x128 .f32) (si : Vec F S40x128 .i32) : IVec S4x64 32 :=
  rows4 (k0_pay15 (k0_pay13 sv si)) (k0_pay21 (k0_pay9 sv) (k0_pay10 si) (k0_pay12 sv) (k0_pay13 sv si))
    (k0_pay3 (k0_pay25 (k0_pay9 sv) (k0_pay10 si) (k0_pay12 sv) (k0_pay13 sv si)))
    (k0_pay7 (k0_pay10 si) (k0_pay22 (k0_pay9 sv) (k0_pay10 si) (k0_pay12 sv) (k0_pay13 sv si))
      (k0_pay24 (k0_pay9 sv) (k0_pay10 si) (k0_pay12 sv) (k0_pay13 sv si))
      (k0_pay25 (k0_pay9 sv) (k0_pay10 si) (k0_pay12 sv) (k0_pay13 sv si)))

/-- A one-row store at row `r`: that row is the payload, the others are as before. -/
theorem put_row {α : Type} (x : S4x64.Idx → α) (off : Fin 2 → ℕ) (r : Fin 4) (hoff : off = ![r.val, 0]) (w : S1x64.Idx → α) (a : Fin 4) (b : Fin 64) :
    put (s := S4x64) x off S1x64.size w (ix2 a b) = if a = r then w (ix2 (0 : Fin 1) b) else x (ix2 a b) := by
  subst hoff
  by_cases h : a = r
  · subst h
    rw [if_pos rfl]
    refine (dif_pos ?_).trans (congrArg w ?_)
    · intro k
      match k with
      | 0 => exact ⟨le_refl _, Nat.lt_succ_self _⟩
      | 1 => exact ⟨Nat.zero_le _, by show b.val < 0 + 64; omega⟩
    · funext k
      match k with
      | 0 => exact Fin.ext (Nat.sub_self _)
      | 1 => exact Fin.ext (Nat.sub_zero _)
  · rw [if_neg h]
    refine dif_neg fun hall => h (Fin.ext ?_)
    have h0 : r.val ≤ a.val ∧ a.val < r.val + 1 := hall 0
    omega

/-- Four one-row stores cover a four-row array: whatever was there, the rows stored are what it holds. -/
theorem put4 {α : Type} (x : S4x64.Idx → α) (r0 r1 r2 r3 : S1x64.Idx → α) :
    put (s := S4x64) (put (s := S4x64) (put (s := S4x64) (put (s := S4x64) x ![0, 0] S1x64.size r0) ![1, 0] S1x64.size r1) ![2, 0] S1x64.size r2)
      ![3, 0] S1x64.size r3 = rows4 r0 r1 r2 r3 := by
  funext i
  obtain ⟨a, b, rfl⟩ : ∃ (a : Fin 4) (b : Fin 64), i = ix2 a b := ⟨i 0, i 1, funext fun k => by match k with | 0 => rfl | 1 => rfl⟩
  rw [put_row _ ![3, 0] 3 rfl, put_row _ ![2, 0] 2 rfl, put_row _ ![1, 0] 1 rfl, put_row _ ![0, 0] 0 rfl]
  match a with
  | 0 => rfl
  | 1 => rfl
  | 2 => rfl
  | 3 => rfl

end Cert.KernelIdeal.Vocab

end
-- ==== Proof.Body.lean ====
/-
  One grid point of the vocabulary pass, run: which windows of the four tables it stores, and at the last point
  what the outputs then hold.
-/
module

public import proofs.«01_k».proof.Proof.Vals
public import proofs.«01_k».proof.Proof.Gen.KernelIdeal.Frame
public import Idealize.ShloMosaic.Lib.WholeRead
public import Idealize.ShloMosaic.Lib.Tactic

@[expose] public section

set_option maxRecDepth 16384

noncomputable section

namespace Cert.KernelIdeal.Vocab

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The pass's own case: the last point, where the tables are merged. -/
def isLast (i : grid0.Coords) : Prop := k0_cond1 i = 1#1

section
variable (c : Dev nD) (i : grid0.Coords) (arg1 : Memref sig .tc .vmem S5000x128 .i32) (harg1 : arg1.IsWhole) (arg2 : Memref sig .tc .vmem S512x64 .f32) (harg2 : arg2.IsWhole)
  (arg3 : Memref sig .tc .vmem S10000x512 .f32) (harg3 : arg3.IsWhole) (arg4 : Memref sig .tc .vmem S1x64 .f32) (harg4 : arg4.IsWhole) (arg5 : Memref sig .tc .vmem S4x64 .f32)
  (harg5 : arg5.IsWhole) (arg6 : Memref sig .tc .vmem S4x64 .i32) (harg6 : arg6.IsWhole) (arg7 : Memref sig .tc .vmem S10x128 .f32) (harg7 : arg7.IsWhole)
  (arg8 : Memref sig .tc .vmem S10x128 .f32) (harg8 : arg8.IsWhole) (arg9 : Memref sig .tc .vmem S40x128 .f32) (harg9 : arg9.IsWhole) (arg10 : Memref sig .tc .vmem S40x128 .i32)
  (harg10 : arg10.IsWhole)

/-- Before the last point: one row of each of the first two tables and four rows of the other two are stored; the outputs' buffers stay as they were. -/
theorem run_store (hc0 : ¬ isLast i) (x0 : Vec F S5000x128 .i32) (x1 : Vec F S512x64 .f32) (x2 : Vec F S10000x512 .f32) (y3 : Vec F S1x64 .f32) (y4 : Vec F S4x64 .f32) (y5 : Vec F S4x64 .i32)
    (s0 s1 : Vec F S10x128 .f32) (s2 : Vec F S40x128 .f32) (s3 : Vec F S40x128 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4 ∗ owns (c : Thread nD τ) arg6 fullShare y5 ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4 ∗ owns (c : Thread nD τ) arg6 fullShare y5
              ∗ owns (c : Thread nD τ) arg7 fullShare (put (s := S10x128) s0 (k0_off1 i) S1x128.size (rowMax x1 x2)) ∗ owns (c : Thread nD τ) arg8 fullShare (put (s := S10x128) s1 (k0_off1 i) S1x128.size (rowSum x1 x2))
              ∗ owns (c : Thread nD τ) arg9 fullShare (put (s := S40x128) s2 (k0_off2 i) S4x128.size (blkVal x0 x1 x2)) ∗ owns (c : Thread nD τ) arg10 fullShare (put (s := S40x128) s3 (k0_off2 i) S4x128.size (blkIdx (BitVec.ofNat 32 (i 0).val) x0 x1 x2))) -∗ K ⟨⟩))
          ⊢ wp frame (wpE (defs₀ (F := F)) Variants.none c none) E (cc0__chunk_kernel i arg1 harg1 arg2 harg2 arg3 harg3 arg4 harg4 arg5 harg5 arg6 harg6 arg7 harg7 arg8 harg8 arg9 harg9 arg10 harg10) K := by
    intro E K
    simp only [cc0__chunk_kernel_eq_skeleton]; unfold cc0__chunk_kernel_skel
    simp only [k0_part3_eq_skeleton, k0_part4_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, ⟨%fs2, %hs2, HS2⟩, ⟨%fs3, %hs3, HS3⟩, Hk⟩
    have e0 : View.readAt (Elt F) arg1.view (Rect.unit (s := S5000x128) ![0, 0] S5000x128.size inb_S5000x128_S5000x128_0_0).toLoadRect f0 = x0 :=
      (View.readAt_full _ _ _).trans hf0
    have e1 : View.readAt (Elt F) arg2.view (Rect.unit (s := S512x64) ![0, 0] S512x64.size inb_S512x64_S512x64_0_0).toLoadRect f1 = x1 :=
      (View.readAt_full _ _ _).trans hf1
    have e2 : View.readAt (Elt F) arg3.view (Rect.unit (s := S10000x512) ![0, 0] S5000x512.size inb_S10000x512_S5000x512_0_0).toLoadRect f2 = lo x2 :=
      (View.readAt_unit _ _ _ rfl inb_S10000x512_S5000x512_0_0).trans (by rw [hf2]; first | done | rfl)
    have e3 : View.readAt (Elt F) arg3.view (Rect.unit (s := S10000x512) ![5000, 0] S5000x512.size inb_S10000x512_S5000x512_5000_0).toLoadRect f2 = hi x2 :=
      (View.readAt_unit _ _ _ rfl inb_S10000x512_S5000x512_5000_0).trans (by rw [hf2]; first | done | rfl)
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [HS0]
    · iexists _; isplitr; swap; · iexact HS0
      ipureintro
      rw [View.read_writes_cons_put _ _ _ _ _ rfl, View.writes_nil, hs0]
      simp only [e1, e2, e3]
      rfl
    isplitl [HS1]
    · iexists _; isplitr; swap; · iexact HS1
      ipureintro
      rw [View.read_writes_cons_put _ _ _ _ _ rfl, View.writes_nil, hs1]
      simp only [e1, e2, e3]
      rfl
    isplitl [HS2]
    · iexists _; isplitr; swap; · iexact HS2
      ipureintro
      rw [View.read_writes_cons_put _ _ _ _ _ rfl, View.writes_nil, hs2]
      delta run_store.sl.r run_store.sl.r_1 run_store.sl.r_2 run_store.sl.r_3 run_store.sl.r_4 run_store.sl.r_5 run_store.sl.r_6 run_store.sl.r_7 run_store.sl.r_8 run_store.sl.r_9
      rfl
    iexists _; isplitr; swap; · iexact HS3
    ipureintro
    rw [View.read_writes_cons_put _ _ _ _ _ rfl, View.writes_nil, hs3]
    delta run_store.sl.r run_store.sl.r_1 run_store.sl.r_2 run_store.sl.r_3 run_store.sl.r_4 run_store.sl.r_5 run_store.sl.r_6 run_store.sl.r_7 run_store.sl.r_8 run_store.sl.r_9
    rfl

/-- At the last point: the tables are stored as before, and the outputs' buffers then hold what the merge makes of the tables. -/
theorem run_merge (hc0 : isLast i) (x0 : Vec F S5000x128 .i32) (x1 : Vec F S512x64 .f32) (x2 : Vec F S10000x512 .f32) (y3 : Vec F S1x64 .f32) (y4 : Vec F S4x64 .f32) (y5 : Vec F S4x64 .i32)
    (s0 s1 : Vec F S10x128 .f32) (s2 : Vec F S40x128 .f32) (s3 : Vec F S40x128 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4 ∗ owns (c : Thread nD τ) arg6 fullShare y5 ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg1 fullShare x0 ∗ owns (c : Thread nD τ) arg2 fullShare x1 ∗ owns (c : Thread nD τ) arg3 fullShare x2 ∗ owns (c : Thread nD τ) arg4 fullShare (outLse (put (s := S10x128) s0 (k0_off1 i) S1x128.size (rowMax x1 x2)) (put (s := S10x128) s1 (k0_off1 i) S1x128.size (rowSum x1 x2))) ∗ owns (c : Thread nD τ) arg5 fullShare (outVal (put (s := S40x128) s2 (k0_off2 i) S4x128.size (blkVal x0 x1 x2)) (put (s := S40x128) s3 (k0_off2 i) S4x128.size (blkIdx (BitVec.ofNat 32 (i 0).val) x0 x1 x2))) ∗ owns (c : Thread nD τ) arg6 fullShare (outIdx (put (s := S40x128) s2 (k0_off2 i) S4x128.size (blkVal x0 x1 x2)) (put (s := S40x128) s3 (k0_off2 i) S4x128.size (blkIdx (BitVec.ofNat 32 (i 0).val) x0 x1 x2)))
              ∗ owns (c : Thread nD τ) arg7 fullShare (put (s := S10x128) s0 (k0_off1 i) S1x128.size (rowMax x1 x2)) ∗ owns (c : Thread nD τ) arg8 fullShare (put (s := S10x128) s1 (k0_off1 i) S1x128.size (rowSum x1 x2))
              ∗ owns (c : Thread nD τ) arg9 fullShare (put (s := S40x128) s2 (k0_off2 i) S4x128.size (blkVal x0 x1 x2)) ∗ owns (c : Thread nD τ) arg10 fullShare (put (s := S40x128) s3 (k0_off2 i) S4x128.size (blkIdx (BitVec.ofNat 32 (i 0).val) x0 x1 x2))) -∗ K ⟨⟩))
          ⊢ wp frame (wpE (defs₀ (F := F)) Variants.none c none) E (cc0__chunk_kernel i arg1 harg1 arg2 harg2 arg3 harg3 arg4 harg4 arg5 harg5 arg6 harg6 arg7 harg7 arg8 harg8 arg9 harg9 arg10 harg10) K := by
    intro E K
    simp only [cc0__chunk_kernel_eq_skeleton]; unfold cc0__chunk_kernel_skel
    simp only [k0_part3_eq_skeleton, k0_part4_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, ⟨%fs2, %hs2, HS2⟩, ⟨%fs3, %hs3, HS3⟩, Hk⟩
    have e0 : View.readAt (Elt F) arg1.view (Rect.unit (s := S5000x128) ![0, 0] S5000x128.size inb_S5000x128_S5000x128_0_0).toLoadRect f0 = x0 :=
      (View.readAt_full _ _ _).trans hf0
    have e1 : View.readAt (Elt F) arg2.view (Rect.unit (s := S512x64) ![0, 0] S512x64.size inb_S512x64_S512x64_0_0).toLoadRect f1 = x1 :=
      (View.readAt_full _ _ _).trans hf1
    have e2 : View.readAt (Elt F) arg3.view (Rect.unit (s := S10000x512) ![0, 0] S5000x512.size inb_S10000x512_S5000x512_0_0).toLoadRect f2 = lo x2 :=
      (View.readAt_unit _ _ _ rfl inb_S10000x512_S5000x512_0_0).trans (by rw [hf2]; first | done | rfl)
    have e3 : View.readAt (Elt F) arg3.view (Rect.unit (s := S10000x512) ![5000, 0] S5000x512.size inb_S10000x512_S5000x512_5000_0).toLoadRect f2 = hi x2 :=
      (View.readAt_unit _ _ _ rfl inb_S10000x512_S5000x512_5000_0).trans (by rw [hf2]; first | done | rfl)
    have t7 : ∀ p, View.readAt (Elt F) arg7.view (Rect.unit (s := S10x128) ![0, 0] S10x128.size inb_S10x128_S10x128_0_0).toLoadRect
        (arg7.view.writes (Elt F) fs0 [⟨Rect.unit (s := S10x128) (k0_off1 i) S1x128.size (k0_off1_inb i), p⟩]) = put (s := S10x128) s0 (k0_off1 i) S1x128.size p := fun p =>
      (View.readAt_full _ _ _).trans ((View.read_writes_cons_put _ _ _ _ _ rfl).trans (by rw [View.writes_nil, hs0]))
    have t8 : ∀ p, View.readAt (Elt F) arg8.view (Rect.unit (s := S10x128) ![0, 0] S10x128.size inb_S10x128_S10x128_0_0).toLoadRect
        (arg8.view.writes (Elt F) fs1 [⟨Rect.unit (s := S10x128) (k0_off1 i) S1x128.size (k0_off1_inb i), p⟩]) = put (s := S10x128) s1 (k0_off1 i) S1x128.size p := fun p =>
      (View.readAt_full _ _ _).trans ((View.read_writes_cons_put _ _ _ _ _ rfl).trans (by rw [View.writes_nil, hs1]))
    have t9 : ∀ p, View.readAt (Elt F) arg9.view (Rect.unit (s := S40x128) ![0, 0] S40x128.size inb_S40x128_S40x128_0_0).toLoadRect
        (arg9.view.writes (Elt F) fs2 [⟨Rect.unit (s := S40x128) (k0_off2 i) S4x128.size (k0_off2_inb i), p⟩]) = put (s := S40x128) s2 (k0_off2 i) S4x128.size p := fun p =>
      (View.readAt_full _ _ _).trans ((View.read_writes_cons_put _ _ _ _ _ rfl).trans (by rw [View.writes_nil, hs2]))
    have t10 : ∀ p, View.readAt (Elt F) arg10.view (Rect.unit (s := S40x128) ![0, 0] S40x128.size inb_S40x128_S40x128_0_0).toLoadRect
        (arg10.view.writes (Elt F) fs3 [⟨Rect.unit (s := S40x128) (k0_off2 i) S4x128.size (k0_off2_inb i), p⟩]) = put (s := S40x128) s3 (k0_off2 i) S4x128.size p := fun p =>
      (View.readAt_full _ _ _).trans ((View.read_writes_cons_put _ _ _ _ _ rfl).trans (by rw [View.writes_nil, hs3]))
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap; · iexact H3
      ipureintro
      rw [View.read_writes_full _ _ _ _ _]
      simp only [t7, t8]
      rfl
    isplitl [H4]
    · iexists _; isplitr; swap; · iexact H4
      ipureintro
      rw [View.read_writes_cons_put _ _ _ _ _ rfl, View.read_writes_cons_put _ _ _ _ _ rfl, View.read_writes_cons_put _ _ _ _ _ rfl,
        View.read_writes_cons_put _ _ _ _ _ rfl]
      refine (put4 _ _ _ _ _).trans ?_
      delta run_merge.sl.r run_merge.sl.r_1 run_merge.sl.r_2 run_merge.sl.r_3 run_merge.sl.r_4 run_merge.sl.r_5 run_merge.sl.r_6 run_merge.sl.r_7 run_merge.sl.r_8 run_merge.sl.r_9 run_merge.sl.r_10 run_merge.sl.r_11 run_merge.sl.r_12 run_merge.sl.r_13 run_merge.sl.r_14 run_merge.sl.r_15 run_merge.sl.r_16 run_merge.sl.r_17 run_merge.sl.r_18 run_merge.sl.r_19
      simp only [t9, t10]
      rfl
    isplitl [H5]
    · iexists _; isplitr; swap; · iexact H5
      ipureintro
      rw [View.read_writes_cons_put _ _ _ _ _ rfl, View.read_writes_cons_put _ _ _ _ _ rfl, View.read_writes_cons_put _ _ _ _ _ rfl,
        View.read_writes_cons_put _ _ _ _ _ rfl]
      refine (put4 _ _ _ _ _).trans ?_
      delta run_merge.sl.r run_merge.sl.r_1 run_merge.sl.r_2 run_merge.sl.r_3 run_merge.sl.r_4 run_merge.sl.r_5 run_merge.sl.r_6 run_merge.sl.r_7 run_merge.sl.r_8 run_merge.sl.r_9 run_merge.sl.r_10 run_merge.sl.r_11 run_merge.sl.r_12 run_merge.sl.r_13 run_merge.sl.r_14 run_merge.sl.r_15 run_merge.sl.r_16 run_merge.sl.r_17 run_merge.sl.r_18 run_merge.sl.r_19
      simp only [t9, t10]
      rfl
    isplitl [HS0]
    · iexists _; isplitr; swap; · iexact HS0
      ipureintro
      first | delta run_merge.sl.HS0_1 | skip
      rw [View.read_writes_cons_put _ _ _ _ _ rfl, View.writes_nil, hs0]
      simp only [e1, e2, e3]
      rfl
    isplitl [HS1]
    · iexists _; isplitr; swap; · iexact HS1
      ipureintro
      first | delta run_merge.sl.HS1_1 | skip
      rw [View.read_writes_cons_put _ _ _ _ _ rfl, View.writes_nil, hs1]
      simp only [e1, e2, e3]
      rfl
    isplitl [HS2]
    · iexists _; isplitr; swap; · iexact HS2
      ipureintro
      first | delta run_merge.sl.HS2_1 | skip
      rw [View.read_writes_cons_put _ _ _ _ _ rfl, View.writes_nil, hs2]
      delta run_merge.sl.r run_merge.sl.r_1 run_merge.sl.r_2 run_merge.sl.r_3 run_merge.sl.r_4 run_merge.sl.r_5 run_merge.sl.r_6 run_merge.sl.r_7 run_merge.sl.r_8 run_merge.sl.r_9 run_merge.sl.r_10 run_merge.sl.r_11 run_merge.sl.r_12 run_merge.sl.r_13 run_merge.sl.r_14 run_merge.sl.r_15 run_merge.sl.r_16 run_merge.sl.r_17 run_merge.sl.r_18 run_merge.sl.r_19
      rfl
    iexists _; isplitr; swap; · iexact HS3
    ipureintro
    first | delta run_merge.sl.HS3_1 | skip
    rw [View.read_writes_cons_put _ _ _ _ _ rfl, View.writes_nil, hs3]
    delta run_merge.sl.r run_merge.sl.r_1 run_merge.sl.r_2 run_merge.sl.r_3 run_merge.sl.r_4 run_merge.sl.r_5 run_merge.sl.r_6 run_merge.sl.r_7 run_merge.sl.r_8 run_merge.sl.r_9 run_merge.sl.r_10 run_merge.sl.r_11 run_merge.sl.r_12 run_merge.sl.r_13 run_merge.sl.r_14 run_merge.sl.r_15 run_merge.sl.r_16 run_merge.sl.r_17 run_merge.sl.r_18 run_merge.sl.r_19
    rfl

end

end Cert.KernelIdeal.Vocab

end
-- ==== Proof.Tables.lean ====
/-
  The four tables the points fill, row by row: what each holds once its rows below a bound are stored, and one
  point's step.
-/
module

public import proofs.«01_k».proof.Proof.Vals

@[expose] public section

noncomputable section

namespace Cert.KernelIdeal.Vocab

open Idealize.ShloMosaic Idealize.ShloMosaic.TcCoe Idealize.ShloMosaic.VecWindow
open Cert.KernelIdeal.Gen

variable {F : FTy → Type} [FloatOps F]

/-- The table of lane maxima, from the table's chunks. -/
def tabMax (x1 : Vec F S512x64 .f32) (xb : Fin 10 → Vec F S10000x512 .f32) : Vec F S10x128 .f32 := fun i =>
  rowMax x1 (xb (i 0)) (ix2 (n0 := 1) (n1 := 128) 0 (i 1))
/-- The table of lane sums. -/
def tabSum (x1 : Vec F S512x64 .f32) (xb : Fin 10 → Vec F S10000x512 .f32) : Vec F S10x128 .f32 := fun i =>
  rowSum x1 (xb (i 0)) (ix2 (n0 := 1) (n1 := 128) 0 (i 1))
/-- The chunk a row of the candidates' tables belongs to. -/
def chunkOf (a : Fin 40) : Fin 10 := ⟨a.val / 4, by have := a.isLt; omega⟩
/-- Its place among that chunk's four. -/
def placeOf (a : Fin 40) : Fin 4 := ⟨a.val % 4, Nat.mod_lt _ (by decide)⟩
/-- The table of candidates. -/
def tabVal (x0 : Vec F S5000x128 .i32) (x1 : Vec F S512x64 .f32) (xb : Fin 10 → Vec F S10000x512 .f32) : Vec F S40x128 .f32 := fun i =>
  blkVal x0 x1 (xb (chunkOf (i 0))) (ix2 (n0 := 4) (n1 := 128) (placeOf (i 0)) (i 1))
/-- The table of the candidates' positions. -/
def tabIdx (x0 : Vec F S5000x128 .i32) (x1 : Vec F S512x64 .f32) (xb : Fin 10 → Vec F S10000x512 .f32) : Vec F S40x128 .i32 := fun i =>
  blkIdx (BitVec.ofNat 32 (chunkOf (i 0)).val) x0 x1 (xb (chunkOf (i 0))) (ix2 (n0 := 4) (n1 := 128) (placeOf (i 0)) (i 1))

/-- A table agrees with `S` on its rows below `n`. -/
def Filled {α : Type} {h : ℕ} (n : ℕ) (s S : (⟨2, ![h, 128]⟩ : Shape).Idx → α) : Prop := ∀ (a : Fin h) (b : Fin 128), a.val < n → s (ix2 a b) = S (ix2 a b)

/-- Nothing is asked at first. -/
theorem Filled.zero {α : Type} {h : ℕ} (s S : (⟨2, ![h, 128]⟩ : Shape).Idx → α) : Filled 0 s S := fun _ _ h => absurd h (Nat.not_lt_zero _)

/-- All rows stored: the table is `S`. -/
theorem Filled.all {α : Type} {h : ℕ} {s S : (⟨2, ![h, 128]⟩ : Shape).Idx → α} (H : Filled h s S) : s = S := by
  funext i
  obtain ⟨a, b, rfl⟩ : ∃ (a : Fin h) (b : Fin 128), i = ix2 a b := ⟨i 0, i 1, funext fun k => by match k with | 0 => rfl | 1 => rfl⟩
  exact H a b a.isLt

/-- Storing the next rows extends the agreement. -/
theorem Filled.put {α : Type} {h r : ℕ} {n n' : ℕ} {s S : (⟨2, ![h, 128]⟩ : Shape).Idx → α} (H : Filled n s S) (off : Fin 2 → ℕ) (hoff : off = ![n, 0])
    (hn : n' = n + r) (w : (⟨2, ![r, 128]⟩ : Shape).Idx → α)
    (hw : ∀ (a : Fin h) (b : Fin 128) (a' : Fin r), a.val = n + a'.val → w (ix2 a' b) = S (ix2 a b)) :
    Filled n' (VecWindow.put (s := ⟨2, ![h, 128]⟩) s off ![r, 128] w) S := by
  subst hoff hn
  intro a b ha
  have hb := b.isLt
  by_cases h : n ≤ a.val
  · refine (dif_pos ?_).trans (Eq.trans (congrArg w ?_) (hw a b ⟨a.val - n, by omega⟩ (by show a.val = n + (a.val - n); omega)))
    · intro k
      match k with
      | 0 => exact ⟨h, ha⟩
      | 1 => exact ⟨Nat.zero_le _, by show b.val < 0 + 128; omega⟩
    · funext k
      match k with
      | 0 => rfl
      | 1 => exact Fin.ext (Nat.sub_zero _)
  · refine (dif_neg fun hall => h ?_).trans (H a b (by omega))
    exact (hall 0).1

/-- The stored rows of the maxima. -/
theorem filled_max (x1 : Vec F S512x64 .f32) (xb : Fin 10 → Vec F S10000x512 .f32) (k : Fin 10) {s : Vec F S10x128 .f32} (H : Filled k.val s (tabMax x1 xb))
    (off : Fin 2 → ℕ) (hoff : off = ![k.val, 0]) : Filled (h := 10) (k.val + 1) (put (s := S10x128) s off S1x128.size (rowMax x1 (xb k))) (tabMax x1 xb) :=
  H.put off hoff rfl _ fun a b a' e => by
    obtain rfl : a = k := Fin.ext (by have := a'.isLt; omega)
    obtain rfl : a' = 0 := Subsingleton.elim _ _
    rfl
/-- The stored rows of the sums. -/
theorem filled_sum (x1 : Vec F S512x64 .f32) (xb : Fin 10 → Vec F S10000x512 .f32) (k : Fin 10) {s : Vec F S10x128 .f32} (H : Filled k.val s (tabSum x1 xb))
    (off : Fin 2 → ℕ) (hoff : off = ![k.val, 0]) : Filled (h := 10) (k.val + 1) (put (s := S10x128) s off S1x128.size (rowSum x1 (xb k))) (tabSum x1 xb) :=
  H.put off hoff rfl _ fun a b a' e => by
    obtain rfl : a = k := Fin.ext (by have := a'.isLt; omega)
    obtain rfl : a' = 0 := Subsingleton.elim _ _
    rfl
/-- A row of four. -/
theorem row_of_four (a : Fin 40) (k : Fin 10) (a' : Fin 4) (e : a.val = 4 * k.val + a'.val) : chunkOf a = k ∧ placeOf a = a' :=
  ⟨Fin.ext (by have := a'.isLt; show a.val / 4 = k.val; omega), Fin.ext (by have := a'.isLt; show a.val % 4 = a'.val; omega)⟩
/-- The stored rows of the candidates. -/
theorem filled_val (x0 : Vec F S5000x128 .i32) (x1 : Vec F S512x64 .f32) (xb : Fin 10 → Vec F S10000x512 .f32) (k : Fin 10) {s : Vec F S40x128 .f32}
    (H : Filled (4 * k.val) s (tabVal x0 x1 xb)) (off : Fin 2 → ℕ) (hoff : off = ![4 * k.val, 0]) :
    Filled (h := 40) (4 * (k.val + 1)) (put (s := S40x128) s off S4x128.size (blkVal x0 x1 (xb k))) (tabVal x0 x1 xb) :=
  H.put off hoff (by omega) _ fun a b a' e => by
    obtain ⟨e1, e2⟩ := row_of_four a k a' e
    show _ = blkVal x0 x1 (xb (chunkOf a)) (ix2 (n0 := 4) (n1 := 128) (placeOf a) b)
    rw [e1, e2]
/-- The stored rows of the positions. -/
theorem filled_idx (x0 : Vec F S5000x128 .i32) (x1 : Vec F S512x64 .f32) (xb : Fin 10 → Vec F S10000x512 .f32) (k : Fin 10) {s : Vec F S40x128 .i32}
    (H : Filled (4 * k.val) s (tabIdx x0 x1 xb)) (off : Fin 2 → ℕ) (hoff : off = ![4 * k.val, 0]) :
    Filled (h := 40) (4 * (k.val + 1)) (put (s := S40x128) s off S4x128.size (blkIdx (BitVec.ofNat 32 k.val) x0 x1 (xb k))) (tabIdx x0 x1 xb) :=
  H.put off hoff (by omega) _ fun a b a' e => by
    obtain ⟨e1, e2⟩ := row_of_four a k a' e
    show _ = blkIdx (BitVec.ofNat 32 (chunkOf a).val) x0 x1 (xb (chunkOf a)) (ix2 (n0 := 4) (n1 := 128) (placeOf a) b)
    rw [e1, e2]

end Cert.KernelIdeal.Vocab

end
-- ==== Proof.Launch.lean ====
/-
  The vocabulary pass, launched: the four tables are tracked from point to point, and at the end every output array
  holds what the merge makes of the full tables.
-/
module

public import proofs.«01_k».proof.Proof.Body
public import proofs.«01_k».proof.Proof.Tables
public import Idealize.ShloMosaic.Lib.Pipeline.FrameBody
public import Idealize.ShloMosaic.Lib.Pipeline.FrameSuffix
public import Idealize.ShloMosaic.Lib.WordCmp
public import Idealize.ShloMosaic.Lib.Claim
public import Idealize.ShloMosaic.Lib.Pipeline.ValueKit

@[expose] public section

set_option maxRecDepth 16384

noncomputable section

namespace Cert.KernelIdeal.Vocab

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The points number ten. -/
theorem pt_lt (t : Fin cfg0.N) : t.val < 10 := lt_of_lt_of_eq t.isLt N_0
/-- A point as a number below ten. -/
def ptFin (t : Fin cfg0.N) : Fin 10 := ⟨t.val, pt_lt t⟩
/-- A number below ten as a point. -/
def finPt (k : Fin 10) : Fin cfg0.N := ⟨k.val, lt_of_lt_of_eq k.isLt N_0.symm⟩
theorem finPt_ptFin (t : Fin cfg0.N) : finPt (ptFin t) = t := rfl
/-- The grid's coordinate is the point's number. -/
theorem coord_eq (t : Fin cfg0.N) : (grid0.coords t 0).val = t.val := by
  have h : (grid0.coords t 0).val = t.val / 1 % 10 := Pipeline.Grid.coords_val t 0 (by decide) rfl
  have := pt_lt t
  omega
/-- The merge runs at the last point only. -/
theorem isLast_iff (t : Fin cfg0.N) : isLast (grid0.coords t) ↔ t.val = 9 := by
  have e0 := coord_eq t
  have := pt_lt t
  simp only [isLast, k0_cond1, e0]
  word_cmp
/-- The stored row of the first two tables. -/
theorem off1_eq (t : Fin cfg0.N) : k0_off1 (grid0.coords t) = ![(ptFin t).val, 0] := by
  have e0 := coord_eq t
  have h : t.val < 10 := pt_lt t
  show (![(BitVec.ofNat 32 (grid0.coords t 0).val).toNat, 0] : Fin 2 → ℕ) = ![t.val, 0]
  rw [e0, BitVec.toNat_ofNat, Nat.mod_eq_of_lt (by omega)]
/-- The first stored row of the candidates' tables. -/
theorem off2_eq (t : Fin cfg0.N) : k0_off2 (grid0.coords t) = ![4 * (ptFin t).val, 0] := by
  have e0 := coord_eq t
  have h : t.val < 10 := pt_lt t
  show (![(BitVec.ofNat 32 (grid0.coords t 0).val * 4#32).toNat, 0] : Fin 2 → ℕ) = ![4 * t.val, 0]
  rw [e0, BitVec.toNat_mul, BitVec.toNat_ofNat, Nat.mod_eq_of_lt (show t.val < 2 ^ 32 by omega)]
  congr 1
  show t.val * 4 % 2 ^ 32 = 4 * t.val
  omega

/-! ## What the windows hold -/

/-- The iota the pass is given. -/
def X0 (c : Dev nD) : Vec F S5000x128 .i32 := iblk m c 0 (finPt 0)
/-- The hidden states. -/
def X1 (c : Dev nD) : Vec F S512x64 .f32 := iblk m c 1 (finPt 0)
/-- The table's chunks. -/
def Xb (c : Dev nD) (k : Fin 10) : Vec F S10000x512 .f32 := iblk m c 2 (finPt k)

theorem iblk0_eq (c : Dev nD) (t : Fin cfg0.N) : iblk m c 0 t = X0 m c := rfl
theorem iblk1_eq (c : Dev nD) (t : Fin cfg0.N) : iblk m c 1 t = X1 m c := rfl
theorem iblk2_eq (c : Dev nD) (t : Fin cfg0.N) : iblk m c 2 t = Xb m c (ptFin t) := rfl

/-- The scratch buffers. -/
abbrev scr0 : Memref sig .tc .vmem S10x128 .f32 := Memref.whole cc0_scratch0
abbrev scr1 : Memref sig .tc .vmem S10x128 .f32 := Memref.whole cc0_scratch1
abbrev scr2 : Memref sig .tc .vmem S40x128 .f32 := Memref.whole cc0_scratch2
abbrev scr3 : Memref sig .tc .vmem S40x128 .i32 := Memref.whole cc0_scratch3

/-- What the four scratch buffers hold before point `n`: the tables, as far as the points before have filled them. -/
def Tables (c : Dev nD) (n : ℕ) (s0 s1 : Vec F S10x128 .f32) (s2 : Vec F S40x128 .f32) (s3 : Vec F S40x128 .i32) : Prop :=
  Filled (h := 10) n s0 (tabMax (X1 m c) (Xb m c)) ∧ Filled (h := 10) n s1 (tabSum (X1 m c) (Xb m c))
    ∧ Filled (h := 40) (4 * n) s2 (tabVal (X0 m c) (X1 m c) (Xb m c)) ∧ Filled (h := 40) (4 * n) s3 (tabIdx (X0 m c) (X1 m c) (Xb m c))

/-- The invariant between points. -/
def Inv (c : Dev nD) (n : ℕ) : sProp 𝕄 :=
  iprop((∃ s0, ∃ s1, ∃ s2, ∃ s3, ⌜Tables m c n s0 s1 s2 s3⌝ ∗ owns (c : Thread nD τ) scr0 fullShare s0 ∗ owns (c : Thread nD τ) scr1 fullShare s1
    ∗ owns (c : Thread nD τ) scr2 fullShare s2 ∗ owns (c : Thread nD τ) scr3 fullShare s3) ∗ (∃ r, prngReg c r))

/-- The launch's own invariant, with the scratch buffers as memrefs. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- What the scratch buffers hold at first is enough. -/
theorem inv_first (c : Dev nD) : Pipeline.ΦA spec0 c ⊢ (Inv m c 0 : sProp 𝕄) := by
  rw [scratch_eq]; unfold Inv
  iintro ⟨⟨⟨%d0, H0⟩, ⟨%d1, H1⟩, ⟨%d2, H2⟩, ⟨%d3, H3⟩⟩, Hg⟩
  isplitl [H0 H1 H2 H3]
  · iexists d0, d1, d2, d3
    isplitr
    · ipureintro; exact ⟨Filled.zero _ _, Filled.zero _ _, Filled.zero _ _, Filled.zero _ _⟩
    isplitl [H0]; · iexact H0
    isplitl [H1]; · iexact H1
    isplitl [H2]; · iexact H2
    iexact H3
  iexact Hg
/-- And at the end they are handed back. -/
theorem inv_last (c : Dev nD) (n : ℕ) : (Inv m c n : sProp 𝕄) ⊢ Pipeline.ΦA spec0 c := by
  rw [scratch_eq]; unfold Inv
  iintro ⟨⟨%d0, %d1, %d2, %d3, -, H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

/-- The logarithms of the sums, of the full tables. -/
def resLse (c : Dev nD) : Vec F S1x64 .f32 := outLse (tabMax (X1 m c) (Xb m c)) (tabSum (X1 m c) (Xb m c))
/-- The largest logits, of the full tables. -/
def resVal (c : Dev nD) : Vec F S4x64 .f32 := outVal (tabVal (X0 m c) (X1 m c) (Xb m c)) (tabIdx (X0 m c) (X1 m c) (Xb m c))
/-- Their positions, of the full tables. -/
def resIdx (c : Dev nD) : Vec F S4x64 .i32 := outIdx (tabVal (X0 m c) (X1 m c) (Xb m c)) (tabIdx (X0 m c) (X1 m c) (Xb m c))

/-- The launch's proof data: inputs stay, outputs are the merge's results, the tables are tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => resLse m c
    | ⟨4, _⟩ => resVal m c
    | ⟨5, _⟩ => resIdx m c
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = resLse m c := by dsimp only [dats]
theorem after_4 (c : Dev nD) (t : Fin cfg0.N) : (dats m 0 c).after 4 t = resVal m c := by dsimp only [dats]
theorem after_5 (c : Dev nD) (t : Fin cfg0.N) : (dats m 0 c).after 5 t = resIdx m c := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

/-- An input is handed back as it came. -/
theorem leaves_in (c : Dev nD) (t : Fin cfg0.N) :
    (dats m 0 c).leavesExact 0 t = (owns (c : Thread nD τ) (win0_0.stage (cfg0.slots t 0)) fullShare (X0 m c) : sProp 𝕄)
    ∧ (dats m 0 c).leavesExact 1 t = (owns (c : Thread nD τ) (win0_1.stage (cfg0.slots t 1)) fullShare (X1 m c) : sProp 𝕄)
    ∧ (dats m 0 c).leavesExact 2 t = (owns (c : Thread nD τ) (win0_2.stage (cfg0.slots t 2)) fullShare (Xb m c (ptFin t)) : sProp 𝕄) := by
  refine ⟨?_, ?_, ?_⟩
  · unfold Dat.leavesExact; rw [show cfg0.idle 0 (cfg0.grid.coords t) = false from rfl, after_0]; rfl
  · unfold Dat.leavesExact; rw [show cfg0.idle 1 (cfg0.grid.coords t) = false from rfl, after_1]; rfl
  · unfold Dat.leavesExact; rw [show cfg0.idle 2 (cfg0.grid.coords t) = false from rfl, after_2]; rfl

/-- Whether an output is idle at a point: at every point but the last. -/
theorem idle_out (t : Fin cfg0.N) (w : Fin 6) (hw : w = 3 ∨ w = 4 ∨ w = 5) : cfg0.idle w (cfg0.grid.coords t) = !decide (t.val = 9) := by
  have h := isLast_iff t
  have e : cfg0.idle w (cfg0.grid.coords t) = !decide (k0_cond1 (grid0.coords t) = 1#1) := by rcases hw with rfl | rfl | rfl <;> rfl
  rw [e]
  congr 1
  exact decide_eq_decide.mpr h

/-- At the last point an output is left at the merge's result, at the others as it was found. -/
theorem leaves_out_last (c : Dev nD) (t : Fin cfg0.N) (w : Fin 6) (hw : w = 3 ∨ w = 4 ∨ w = 5) (h : t.val = 9) :
    (dats m 0 c).leavesExact w t = (owns (c : Thread nD τ) ((cfg0.win w).stage (cfg0.slots t w)) fullShare ((dats m 0 c).after w t) : sProp 𝕄) := by
  unfold Dat.leavesExact; rw [idle_out t w hw, h]; rfl
theorem leaves_out_before (c : Dev nD) (t : Fin cfg0.N) (w : Fin 6) (hw : w = 3 ∨ w = 4 ∨ w = 5) (h : t.val ≠ 9) :
    (dats m 0 c).leavesExact w t = (iprop(∃ d, owns (c : Thread nD τ) ((cfg0.win w).stage (cfg0.slots t w)) fullShare ((dats m 0 c).before w t d)) : sProp 𝕄) := by
  have hlt := pt_lt t
  refine (dats m 0 c).leavesExact_idle w t ?_ ?_
  · rw [idle_out t w hw, decide_eq_false h]; rfl
  · rw [Bool.eq_false_iff]
    intro hf
    rcases hw with rfl | rfl | rfl
    · have := (flush0_3 t).mp hf; omega
    · have := (flush0_4 t).mp hf; omega
    · have := (flush0_5 t).mp hf; omega

/-! ## The body at a point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- One point fills its rows of the four tables. -/
theorem tables_step (c : Dev nD) (t : Fin cfg0.N) {s0 s1 : Vec F S10x128 .f32} {s2 : Vec F S40x128 .f32} {s3 : Vec F S40x128 .i32} (H : Tables m c t.val s0 s1 s2 s3) :
    Tables m c (t.val + 1) (put (s := S10x128) s0 (k0_off1 (grid0.coords t)) S1x128.size (rowMax (X1 m c) (Xb m c (ptFin t))))
      (put (s := S10x128) s1 (k0_off1 (grid0.coords t)) S1x128.size (rowSum (X1 m c) (Xb m c (ptFin t))))
      (put (s := S40x128) s2 (k0_off2 (grid0.coords t)) S4x128.size (blkVal (X0 m c) (X1 m c) (Xb m c (ptFin t))))
      (put (s := S40x128) s3 (k0_off2 (grid0.coords t)) S4x128.size (blkIdx (BitVec.ofNat 32 (grid0.coords t 0).val) (X0 m c) (X1 m c) (Xb m c (ptFin t)))) := by
  obtain ⟨h0, h1, h2, h3⟩ := H
  rw [coord_eq t]
  exact ⟨filled_max _ _ (ptFin t) h0 _ (off1_eq t), filled_sum _ _ (ptFin t) h1 _ (off1_eq t), filled_val _ _ _ (ptFin t) h2 _ (off2_eq t),
    filled_idx _ _ _ (ptFin t) h3 _ (off2_eq t)⟩

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, iblk0_eq, iblk1_eq, iblk2_eq]
  rw [(leaves_in m c t).1, (leaves_in m c t).2.1, (leaves_in m c t).2.2]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  by_cases h9 : t.val = 9
  · rw [leaves_out_last m c t 3 (by decide) h9, leaves_out_last m c t 4 (by decide) h9, leaves_out_last m c t 5 (by decide) h9, after_3, after_4, after_5]
    iintro ⟨⟨⟨%s0, %s1, %s2, %s3, %HT, HS0, HS1, HS2, HS3⟩, Hg⟩, Ho, ⟨%d0, H0⟩, ⟨%d1, H1⟩, ⟨%d2, H2⟩, ⟨%d3, H3⟩, ⟨%d4, H4⟩, ⟨%d5, H5⟩⟩
    have HT' := tables_step m c t HT
    have e0 := Filled.all (h := 10) (by have := HT'.1; rw [h9] at this; exact this)
    have e1 := Filled.all (h := 10) (by have := HT'.2.1; rw [h9] at this; exact this)
    have e2 := Filled.all (h := 40) (by have := HT'.2.2.1; rw [h9] at this; exact this)
    have e3 := Filled.all (h := 40) (by have := HT'.2.2.2; rw [h9] at this; exact this)
    iapply (run_merge c (grid0.coords t) _ _ _ _ _ _ _ _ _ _ _ _ _ _ _ _ _ _ _ _ ((isLast_iff t).mpr h9) (X0 m c) (X1 m c) (Xb m c (ptFin t)) _ _ _ s0 s1 s2 s3 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · iexists _, _, _, _
        isplitr
        · ipureintro; exact HT'
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    rw [e0, e1, e2, e3]
    isplitl [H3]; · iexact H3
    isplitl [H4]; · iexact H4
    iexact H5
  · rw [leaves_out_before m c t 3 (by decide) h9, leaves_out_before m c t 4 (by decide) h9, leaves_out_before m c t 5 (by decide) h9]
    iintro ⟨⟨⟨%s0, %s1, %s2, %s3, %HT, HS0, HS1, HS2, HS3⟩, Hg⟩, Ho, ⟨%d0, H0⟩, ⟨%d1, H1⟩, ⟨%d2, H2⟩, ⟨%d3, H3⟩, ⟨%d4, H4⟩, ⟨%d5, H5⟩⟩
    have HT' := tables_step m c t HT
    iapply (run_store c (grid0.coords t) _ _ _ _ _ _ _ _ _ _ _ _ _ _ _ _ _ _ _ _ (fun h => h9 ((isLast_iff t).mp h)) (X0 m c) (X1 m c) (Xb m c (ptFin t)) _ _ _ s0 s1 s2 s3 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · iexists _, _, _, _
        isplitr
        · ipureintro; exact HT'
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexists _; iexact H3
    isplitl [H4]; · iexists _; iexact H4
    iexists _; iexact H5

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The library's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution ends with the arrays at what the points left and every other buffer at what the later lines make of them. -/
theorem run_main : θ_run defs (onTc (τ := τ) (main (F := F))) (s₀ m ρ) (fun r => Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9, hostOps1_10, hostOps1_11, hostOps1_12]) (hsub := sfx_sub) (hfresh := sfx_fresh) (hkeep := sfx_keeps)
    (hmain := hmain m Variants.none) (hA := A_eq m) (hin := fun c => inv_first m c) (hout := fun c => inv_last m c _) (Q' := _) (hQ' := fun _ h => h)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ))) ((θ_run defs _ _).mono (fun _ h => h.2) (run_main m ρ))

/-! ## The output arrays -/

theorem arr_lse (c : Dev nD) : (dats m 0 c).arrAt 3 (cfgs 0).N = resLse m c := by
  refine (dats m 0 c).arrAt_eq_of_after_last 3 t0_9 (by decide +kernel) _ fun j => ?_
  blk_simp
  rw [after_3]
theorem arr_val (c : Dev nD) : (dats m 0 c).arrAt 4 (cfgs 0).N = resVal m c := by
  refine (dats m 0 c).arrAt_eq_of_after_last 4 t0_9 (by decide +kernel) _ fun j => ?_
  blk_simp
  rw [after_4]
theorem arr_idx (c : Dev nD) : (dats m 0 c).arrAt 5 (cfgs 0).N = resIdx m c := by
  refine (dats m 0 c).arrAt_eq_of_after_last 5 t0_9 (by decide +kernel) _ fun j => ?_
  blk_simp
  rw [after_5]

/-- What the lines after the region find in the output arrays. -/
theorem tail_arr (c : Dev nD) (w : Fin 6) :
    Pipeline.withArrays (cfgs 0).spec c (V0 m c) (fun w => (dats m 0 c).arrAt w (cfgs 0).N) (Proc.devRef .tc (Pipeline.arrRef spec0 w)) = (dats m 0 c).arrAt w (cfgs 0).N :=
  Pipeline.withArrays_arr (cfgs 0).spec (by decide) c (V0 m c) (fun w => (dats m 0 c).arrAt w (cfgs 0).N) w

/-- The iota's array at the region's entry. -/
theorem V_iota (c : Dev nD) : V m c main_v33 = (broadcastInDim S5000x128 ![0, 1] bcast_S5000x1_S5000x128_0_1 (broadcastInDim S5000x1 ![0] bcast_S5000_S5000x1_0 (iotaInDim S5000 32 0)) : IVec S5000x128 32) := by
  show StableHlo.after (List.flatten [hostOps0, hostOps0_1, hostOps0_2]) _ (Proc.devRef .tc main_v33) = _
  rw [List.flatten_cons, List.flatten_cons, List.flatten_cons, List.flatten_nil, List.append_nil, StableHlo.after_append, StableHlo.after_append, hostOps0_2]
  after_results
/-- The iota is the row number. -/
theorem X0_apply (c : Dev nD) (a : Fin 5000) (b : Fin 128) : X0 m c (ix2 a b) = BitVec.ofNat 32 a.val := by
  unfold X0 iblk
  refine (congrFun (V_iota m c) _).trans ?_
  refine congrArg (BitVec.ofNat 32) ?_
  show (((cfg0.win 0).blk (finPt 0)).view.emb (ix2 a b) 0 : Fin 5000).val = a.val
  blk_simp
  exact (congrArg (· + a.val) (Nat.zero_mul _)).trans (Nat.zero_add _)
/-- The hidden states are the array the earlier lines make. -/
theorem X1_eq (c : Dev nD) : X1 m c = V m c main_v30 := by
  funext j
  refine congrArg (V m c main_v30) (funext fun k => Fin.ext ?_)
  blk_simp
  match k with
  | 0 => exact (congrArg (· + (j 0).val) (Nat.zero_mul _)).trans (Nat.zero_add _)
  | 1 => exact (congrArg (· + (j 1).val) (Nat.zero_mul _)).trans (Nat.zero_add _)
/-- Row `a` of chunk `k` is row `10000 k + a` of the embedding table. -/
theorem Xb_apply (c : Dev nD) (k : Fin 10) (a : Fin 10000) (b : Fin 512) (r : Fin 100000) (h : r.val = 10000 * k.val + a.val) :
    Xb m c k (ix2 a b) = m ((c : Thread nD τ).loc main_arg6) (ix2 r b) := by
  refine Eq.trans ?_ (congrFun (V_main_arg6 m c) _)
  refine congrArg (V m c main_arg6) (funext fun x => Fin.ext ?_)
  match x with
  | 0 =>
    have e : win0_2.index (finPt k) 0 = k.val := by
      have h : k.val < 10 := k.isLt
      show (BitVec.ofNat 32 (grid0.coords (finPt k) 0).val).toNat = k.val
      rw [coord_eq, BitVec.toNat_ofNat]
      show k.val % 2 ^ 32 = k.val
      omega
    blk_simp [e]
    omega
  | 1 =>
    blk_simp
    exact (congrArg (· + b.val) (Nat.zero_mul _)).trans (Nat.zero_add _)

end Cert.KernelIdeal.Vocab

end
-- ==== Proof.Order.lean ====
/-
  The four greatest of a family of extended reals, greater first and equal ones by a natural-number key: what one is
  (`Pick`), that it is unique, that picking from groups and then among the picked is picking from all, and that the
  kernel's round — maximum, least key among the entries equal to it, that entry overwritten by a value below all of
  them — makes the next pick.
-/
module

public import Idealize.ShloMosaic.PureOps
public import Idealize.ShloMosaic.PureOps.Ideal.Laws
public import Idealize.ShloMosaic.Lib.SortNet.Extract
public import Idealize.ShloMosaic.Lib.SortPrefix

@[expose] public section

noncomputable section

namespace Cert.Vocab

open Idealize.ShloMosaic

variable {ι : Type} [DecidableEq ι]

/-- `i` goes before `j`: its value is greater, or they are equal and its key is less. -/
def Bf (x : ι → EReal) (key : ι → ℕ) (i j : ι) : Prop := x j < x i ∨ (x j = x i ∧ key i < key j)

omit [DecidableEq ι] in
/-- Going before is transitive. -/
theorem Bf.trans {x : ι → EReal} {key : ι → ℕ} {i j k : ι} (h : Bf x key i j) (h' : Bf x key j k) : Bf x key i k := by
  rcases h with h | ⟨h, hk⟩ <;> rcases h' with h' | ⟨h', hk'⟩
  · exact .inl (h'.trans h)
  · exact .inl (h' ▸ h)
  · exact .inl (h ▸ h')
  · exact .inr ⟨h'.trans h, hk.trans hk'⟩

omit [DecidableEq ι] in
/-- Two positions do not go before one another. -/
theorem Bf.asymm {x : ι → EReal} {key : ι → ℕ} {i j : ι} (h : Bf x key i j) : ¬ Bf x key j i := by
  rintro h'
  rcases h.trans h' with h | ⟨_, h⟩
  · exact lt_irrefl _ h
  · exact lt_irrefl _ h

omit [DecidableEq ι] in
/-- With different keys, of two positions one goes before the other. -/
theorem Bf.total {x : ι → EReal} {key : ι → ℕ} (hkey : Function.Injective key) (i j : ι) : i = j ∨ Bf x key i j ∨ Bf x key j i := by
  rcases lt_trichotomy (x i) (x j) with h | h | h
  · exact .inr (.inr (.inl h))
  · rcases lt_trichotomy (key i) (key j) with hk | hk | hk
    · exact .inr (.inl (.inr ⟨h.symm, hk⟩))
    · exact .inl (hkey hk)
    · exact .inr (.inr (.inr ⟨h, hk⟩))
  · exact .inr (.inl (.inl h))

/-- `p` is the first of the positions outside `L`. -/
structure Pick (x : ι → EReal) (key : ι → ℕ) (L : Finset ι) (p : ι) : Prop where
  fresh : p ∉ L
  best : ∀ j, j ∉ L → j = p ∨ Bf x key p j

omit [DecidableEq ι] in
/-- There is one such position at most. -/
theorem Pick.unique {x : ι → EReal} {key : ι → ℕ} {L : Finset ι} {p p' : ι} (h : Pick x key L p) (h' : Pick x key L p') : p = p' := by
  rcases h.best p' h'.fresh with e | e
  · exact e.symm
  · rcases h'.best p h.fresh with e' | e'
    · exact e'
    · exact absurd e' e.asymm

omit [DecidableEq ι] in
/-- There is one wherever something is outside `L`. -/
theorem exists_pick [Fintype ι] {x : ι → EReal} {key : ι → ℕ} (hkey : Function.Injective key) {L : Finset ι} (hL : ∃ i, i ∉ L) :
    ∃ p, Pick x key L p := by
  classical
  obtain ⟨p, hp, hmax⟩ := Finset.exists_max_image (Finset.univ.filter fun i => i ∉ L) x (by obtain ⟨i, hi⟩ := hL; exact ⟨i, by simp [hi]⟩)
  obtain ⟨q, hq, hmin⟩ := Finset.exists_min_image (Finset.univ.filter fun i => i ∉ L ∧ x i = x p) key
    ⟨p, by simpa using (Finset.mem_filter.mp hp).2⟩
  have hq' : q ∉ L ∧ x q = x p := by simpa using hq
  refine ⟨q, hq'.1, fun j hj => ?_⟩
  rcases Bf.total (x := x) hkey q j with e | e | e
  · exact .inl e.symm
  · exact .inr e
  · exfalso
    have hle : x j ≤ x p := hmax j (by simp [hj])
    rcases e with e | ⟨e, ek⟩
    · exact absurd (hq'.2 ▸ e) (not_lt.mpr hle)
    · have hjp : x j = x p := e.symm.trans hq'.2
      exact absurd (hmin j (by simp [hj, hjp])) (not_le.mpr ek)

/-- The first `r` of four positions, as a set. -/
def before (p : Fin 4 → ι) (r : Fin 4) : Finset ι := (Finset.univ.filter (· < r)).image p

/-- What is among the first `r`. -/
theorem mem_before {p : Fin 4 → ι} {r : Fin 4} {j : ι} : j ∈ before p r ↔ ∃ q, q < r ∧ p q = j := by
  simp [before]

/-- Before the first there is nothing. -/
theorem before_zero (p : Fin 4 → ι) : before p 0 = ∅ := by
  ext j; simp [mem_before]

/-- Before the second there is the first. -/
theorem before_one (p : Fin 4 → ι) : before p 1 = insert (p 0) ∅ := by
  ext j
  simp only [mem_before, Finset.mem_insert, Finset.notMem_empty, or_false]
  constructor
  · rintro ⟨q, hq, e⟩
    obtain rfl : q = 0 := by omega
    exact e.symm
  · rintro rfl
    exact ⟨0, by decide, rfl⟩

/-- Before the third there are the second and the first. -/
theorem before_two (p : Fin 4 → ι) : before p 2 = insert (p 1) (insert (p 0) ∅) := by
  ext j
  simp only [mem_before, Finset.mem_insert, Finset.notMem_empty, or_false]
  constructor
  · rintro ⟨q, hq, e⟩
    obtain rfl | rfl : q = 1 ∨ q = 0 := by omega
    · exact .inl e.symm
    · exact .inr e.symm
  · rintro (rfl | rfl)
    · exact ⟨1, by decide, rfl⟩
    · exact ⟨0, by decide, rfl⟩

/-- Before the fourth there are the third, the second and the first. -/
theorem before_three (p : Fin 4 → ι) : before p 3 = insert (p 2) (insert (p 1) (insert (p 0) ∅)) := by
  ext j
  simp only [mem_before, Finset.mem_insert, Finset.notMem_empty, or_false]
  constructor
  · rintro ⟨q, hq, e⟩
    obtain rfl | rfl | rfl : q = 2 ∨ q = 1 ∨ q = 0 := by omega
    · exact .inl e.symm
    · exact .inr (.inl e.symm)
    · exact .inr (.inr e.symm)
  · rintro (rfl | rfl | rfl)
    · exact ⟨2, by decide, rfl⟩
    · exact ⟨1, by decide, rfl⟩
    · exact ⟨0, by decide, rfl⟩

/-- `p` lists the first four positions in order. -/
def Four (x : ι → EReal) (key : ι → ℕ) (p : Fin 4 → ι) : Prop := ∀ r, Pick x key (before p r) (p r)

/-- The four picks one by one. -/
theorem Four.mk' {x : ι → EReal} {key : ι → ℕ} {p : Fin 4 → ι} (h0 : Pick x key ∅ (p 0)) (h1 : Pick x key (insert (p 0) ∅) (p 1))
    (h2 : Pick x key (insert (p 1) (insert (p 0) ∅)) (p 2)) (h3 : Pick x key (insert (p 2) (insert (p 1) (insert (p 0) ∅))) (p 3)) :
    Four x key p := fun r => by
  match r with
  | 0 => rw [before_zero]; exact h0
  | 1 => rw [before_one]; exact h1
  | 2 => rw [before_two]; exact h2
  | 3 => rw [before_three]; exact h3

/-- The list is unique. -/
theorem Four.unique {x : ι → EReal} {key : ι → ℕ} {p p' : Fin 4 → ι} (h : Four x key p) (h' : Four x key p') : p = p' := by
  funext r
  refine WellFoundedLT.induction (motive := fun r => p r = p' r) r fun r hr => ?_
  have e : before p r = before p' r := by
    ext j; simp only [mem_before]
    exact ⟨fun ⟨q, hq, e⟩ => ⟨q, hq, (hr q hq).symm.trans e⟩, fun ⟨q, hq, e⟩ => ⟨q, hq, (hr q hq).trans e⟩⟩
  exact (h r).unique (e ▸ h' r)

/-- The four are different. -/
theorem Four.injective {x : ι → EReal} {key : ι → ℕ} {p : Fin 4 → ι} (h : Four x key p) : Function.Injective p := by
  intro a b e
  rcases lt_trichotomy a b with hab | hab | hab
  · exact absurd (mem_before.mpr ⟨a, hab, e⟩) (h b).fresh
  · exact hab
  · exact absurd (mem_before.mpr ⟨b, hab, e.symm⟩) (h a).fresh

/-- A position that is none of the four comes after each. -/
theorem Four.after {x : ι → EReal} {key : ι → ℕ} {p : Fin 4 → ι} (h : Four x key p) (r : Fin 4) {j : ι} (hj : ∀ q, p q ≠ j) :
    Bf x key (p r) j := by
  rcases (h r).best j (fun hm => by obtain ⟨q, _, e⟩ := mem_before.mp hm; exact hj q e) with e | e
  · exact absurd e.symm (hj r)
  · exact e

/-- FROM GROUPS: `pos` names the candidates, and whatever is not a candidate comes after four of them; the first four
    candidates are the first four of all. -/
theorem Four.of_candidates {κ : Type} [DecidableEq κ] {x : ι → EReal} {key : ι → ℕ} {pos : κ → ι} (hpos : Function.Injective pos)
    (hdom : ∀ j, (∃ c, pos c = j) ∨ ∃ f : Fin 4 → κ, Function.Injective f ∧ ∀ r, Bf x key (pos (f r)) j) {p : Fin 4 → κ}
    (h : Four (x ∘ pos) (key ∘ pos) p) : Four x key (pos ∘ p) := by
  have hmem : ∀ (r : Fin 4) (c : κ), pos c ∈ before (pos ∘ p) r ↔ c ∈ before p r := fun r c => by
    simp only [mem_before, Function.comp]
    exact ⟨fun ⟨q, hq, e⟩ => ⟨q, hq, hpos e⟩, fun ⟨q, hq, e⟩ => ⟨q, hq, congrArg pos e⟩⟩
  intro r
  refine ⟨fun hm => (h r).fresh ((hmem r _).mp hm), fun j hj => ?_⟩
  rcases hdom j with ⟨c, rfl⟩ | ⟨f, hf, hbf⟩
  · rcases (h r).best c (fun hm => hj ((hmem r c).mpr hm)) with e | e
    · exact .inl (congrArg pos e)
    · exact .inr e
  · right
    obtain ⟨a, ha⟩ : ∃ a, f a ∉ before p r := by
      by_contra hall
      push Not at hall
      have hc : (Finset.univ.image f).card ≤ (before p r).card := Finset.card_le_card fun y hy => by
        obtain ⟨a, _, rfl⟩ := Finset.mem_image.mp hy; exact hall a
      rw [Finset.card_image_of_injective _ hf, Finset.card_univ, Fintype.card_fin] at hc
      have h1 : (before p r).card ≤ (Finset.univ.filter (· < r)).card := Finset.card_image_le
      have h2 : ∀ r : Fin 4, (Finset.univ.filter (· < r)).card < 4 := by decide
      have := h2 r
      omega
    rcases (h r).best (f a) ha with e | e
    · exact (show pos (f a) = (pos ∘ p) r from congrArg pos e) ▸ hbf a
    · exact Bf.trans (x := x) (key := key) e (hbf a)

/-! ### The kernel's round -/

/-- The least of words that hold naturals below 2³¹. -/
theorem fold_minsi [Fintype ι] (f : ι → BitVec 32) (n : ι → ℕ) (hf : ∀ i, f i = BitVec.ofNat 32 (n i)) (hn : ∀ i, n i < 2 ^ 31) (p : ι)
    (hp : ∀ i, n p ≤ n i) : Finset.univ.fold IntOp.minsi 2147483647#32 f = BitVec.ofNat 32 (n p) := by
  have hint : ∀ k : ℕ, k < 2 ^ 31 → (BitVec.ofNat 32 k).toInt = k := fun k hk => by
    rw [BitVec.toInt_eq_toNat_of_lt (by rw [BitVec.toNat_ofNat]; omega), BitVec.toNat_ofNat]; congr 1; omega
  apply BitVec.eq_of_toInt_eq
  have hhom := Finset.fold_hom (s := (Finset.univ : Finset ι)) (f := f) (b := 2147483647#32) (op := IntOp.minsi) (op' := (min : ℤ → ℤ → ℤ)) (m := BitVec.toInt)
    (fun a b => SortNet.toInt_minsi a b)
  rw [← hhom, hint _ (hn p)]
  apply le_antisymm
  · exact Finset.fold_min_le _ |>.mpr (.inr ⟨p, Finset.mem_univ _, by rw [hf, hint _ (hn p)]⟩)
  · refine Finset.le_fold_min _ |>.mpr ⟨?_, fun i _ => ?_⟩
    · have := hn p
      have e : (2147483647#32 : BitVec 32).toInt = 2147483647 := by decide
      rw [e]; omega
    · rw [hf, hint _ (hn i)]; exact_mod_cast hp i

/-- The family with the positions in `L` overwritten by `neg`. -/
def masked (neg : EReal) (x : ι → EReal) (L : Finset ι) (i : ι) : EReal := if i ∈ L then neg else x i

/-- Nothing overwritten. -/
theorem masked_empty (neg : EReal) (x : ι → EReal) : masked neg x ∅ = x := by
  funext i; simp [masked]

section
variable [Fintype ι] {neg : EReal} {x : ι → EReal} {key : ι → ℕ} (hneg : ∀ i, neg < x i) {L : Finset ι} {p : ι}
include hneg

/-- The maximum of the overwritten family is the pick's value. -/
theorem Pick.max_eq (h : Pick x key L p) : Finset.univ.fold max ⊥ (masked neg x L) = x p := by
  apply le_antisymm
  · refine Finset.fold_max_le _ |>.mpr ⟨bot_le, fun i _ => ?_⟩
    unfold masked
    split
    · exact (hneg p).le
    · rename_i hi
      rcases h.best i hi with e | e | ⟨e, _⟩
      · rw [e]
      · exact e.le
      · exact e.le
  · exact Finset.le_fold_max _ |>.mpr (.inr ⟨p, Finset.mem_univ _, by rw [masked, if_neg h.fresh]⟩)

omit [Fintype ι] in
/-- The entries equal to the pick's value are outside `L`. -/
theorem Pick.hit (h : Pick x key L p) {i : ι} (hi : masked neg x L i = x p) : i ∉ L ∧ x i = x p := by
  unfold masked at hi
  split at hi
  · exact absurd hi (hneg p).ne
  · rename_i h'; exact ⟨h', hi⟩

/-- The least key among the entries equal to the maximum is the pick's key. -/
theorem Pick.key_eq (h : Pick x key L p) {fill : ℕ} (hkey : ∀ i, key i < fill) (hfill : fill < 2 ^ 31) :
    Finset.univ.fold IntOp.minsi 2147483647#32
        (fun i => if masked neg x L i = x p then BitVec.ofNat 32 (key i) else BitVec.ofNat 32 fill) = BitVec.ofNat 32 (key p) := by
  have hp : (if masked neg x L p = x p then key p else fill) = key p := if_pos (by rw [masked, if_neg h.fresh])
  have := fold_minsi (fun i => if masked neg x L i = x p then BitVec.ofNat 32 (key i) else BitVec.ofNat 32 fill)
    (fun i => if masked neg x L i = x p then key i else fill) (fun i => by split <;> rfl)
    (fun i => by have := hkey i; split <;> omega) p (fun i => by
      rw [hp]
      split
      · rename_i hi
        obtain ⟨hL, hx⟩ := h.hit hneg hi
        rcases h.best i hL with e | e | ⟨_, e⟩
        · rw [e]
        · exact absurd hx e.ne
        · exact e.le
      · exact (hkey p).le)
  rw [this, hp]

omit [Fintype ι] hneg in
/-- Overwriting the entry with the pick's key overwrites the pick. -/
theorem mask_next (hinj : Function.Injective key) {fill : ℕ} (hkey : ∀ i, key i < fill) (hfill : fill < 2 ^ 31) (i : ι) :
    (if BitVec.ofNat 32 (key i) = BitVec.ofNat 32 (key p) then neg else masked neg x L i) = masked neg x (insert p L) i := by
  have e : BitVec.ofNat 32 (key i) = BitVec.ofNat 32 (key p) ↔ i = p := by
    constructor
    · intro e
      have e' := congrArg BitVec.toNat e
      rw [BitVec.toNat_ofNat, BitVec.toNat_ofNat, Nat.mod_eq_of_lt (by have := hkey i; omega), Nat.mod_eq_of_lt (by have := hkey p; omega)] at e'
      exact hinj e'
    · rintro rfl; rfl
  simp only [masked, Finset.mem_insert, e]
  by_cases hi : i = p <;> simp [hi]

end

/-- Fewer than all positions leave one out. -/
theorem exists_pick_of_card [Fintype ι] {x : ι → EReal} {key : ι → ℕ} (hkey : Function.Injective key) {L : Finset ι}
    (hL : L.card < Fintype.card ι) : ∃ p, Pick x key L p := exists_pick hkey (by
  by_contra hall
  push Not at hall
  have : L = Finset.univ := Finset.eq_univ_iff_forall.mpr hall
  rw [this, Finset.card_univ] at hL
  exact lt_irrefl _ hL)

/-- One round, from the family with the earlier picks overwritten: the maximum, the least key, and the next family. -/
theorem round [Fintype ι] {neg : EReal} {x : ι → EReal} {key : ι → ℕ} (hneg : ∀ i, neg < x i) {L : Finset ι} {p : ι}
    (hinj : Function.Injective key) {fill : ℕ} (hkey : ∀ i, key i < fill) (hfill : fill < 2 ^ 31) (h : Pick x key L p)
    {w : ι → BitVec 32} (hw : ∀ i, w i = BitVec.ofNat 32 (key i)) {y : ι → EReal} (hy : ∀ i, y i = masked neg x L i)
    {M : EReal} (hM : M = Finset.univ.fold max ⊥ y) {a : BitVec 32}
    (ha : a = Finset.univ.fold IntOp.minsi 2147483647#32 fun i => if y i = M then w i else BitVec.ofNat 32 fill) :
    M = x p ∧ a = BitVec.ofNat 32 (key p)
      ∧ ∀ y' : ι → EReal, (∀ i, w i = a → y i = M → y' i = neg) → (∀ i, w i ≠ a → y' i = y i) → ∀ i, y' i = masked neg x (insert p L) i := by
  obtain rfl : y = masked neg x L := funext hy
  obtain rfl : w = fun i => BitVec.ofNat 32 (key i) := funext hw
  have eM : M = x p := hM.trans (h.max_eq hneg)
  have ea : a = BitVec.ofNat 32 (key p) := by rw [ha, eM]; exact h.key_eq hneg hkey hfill
  refine ⟨eM, ea, fun y' h1 h2 i => ?_⟩
  rw [← mask_next hinj hkey hfill i]
  by_cases e : BitVec.ofNat 32 (key i) = BitVec.ofNat 32 (key p)
  · rw [if_pos e]
    refine h1 i (e.trans ea.symm) ?_
    have e' := congrArg BitVec.toNat e
    rw [BitVec.toNat_ofNat, BitVec.toNat_ofNat, Nat.mod_eq_of_lt (by have := hkey i; omega), Nat.mod_eq_of_lt (by have := hkey p; omega)] at e'
    rw [hinj e', eM, masked, if_neg h.fresh]
  · rw [if_neg e]
    exact h2 i (by rw [ea]; exact e)

/-- FOUR ROUNDS list the first four positions: their values are the four maxima and their keys the four least keys. -/
theorem rounds [Fintype ι] {neg : EReal} {y0 : ι → EReal} {key : ι → ℕ} (hneg : ∀ i, neg < y0 i) (hcard : 4 ≤ Fintype.card ι)
    (hinj : Function.Injective key) {fill : ℕ} (hkey : ∀ i, key i < fill) (hfill : fill < 2 ^ 31)
    {w : ι → BitVec 32} (hw : ∀ i, w i = BitVec.ofNat 32 (key i)) {y1 y2 y3 : ι → EReal} {M0 M1 M2 M3 : EReal} {a0 a1 a2 a3 : BitVec 32}
    (hM0 : M0 = Finset.univ.fold max ⊥ y0)
    (ha0 : a0 = Finset.univ.fold IntOp.minsi 2147483647#32 fun i => if y0 i = M0 then w i else BitVec.ofNat 32 fill)
    (hy1 : (∀ i, w i = a0 → y0 i = M0 → y1 i = neg) ∧ ∀ i, w i ≠ a0 → y1 i = y0 i)
    (hM1 : M1 = Finset.univ.fold max ⊥ y1)
    (ha1 : a1 = Finset.univ.fold IntOp.minsi 2147483647#32 fun i => if y1 i = M1 then w i else BitVec.ofNat 32 fill)
    (hy2 : (∀ i, w i = a1 → y1 i = M1 → y2 i = neg) ∧ ∀ i, w i ≠ a1 → y2 i = y1 i)
    (hM2 : M2 = Finset.univ.fold max ⊥ y2)
    (ha2 : a2 = Finset.univ.fold IntOp.minsi 2147483647#32 fun i => if y2 i = M2 then w i else BitVec.ofNat 32 fill)
    (hy3 : (∀ i, w i = a2 → y2 i = M2 → y3 i = neg) ∧ ∀ i, w i ≠ a2 → y3 i = y2 i)
    (hM3 : M3 = Finset.univ.fold max ⊥ y3)
    (ha3 : a3 = Finset.univ.fold IntOp.minsi 2147483647#32 fun i => if y3 i = M3 then w i else BitVec.ofNat 32 fill) :
    ∃ p : Fin 4 → ι, Four y0 key p ∧ (∀ r, (![M0, M1, M2, M3] : Fin 4 → EReal) r = y0 (p r))
      ∧ ∀ r, (![a0, a1, a2, a3] : Fin 4 → BitVec 32) r = BitVec.ofNat 32 (key (p r)) := by
  obtain ⟨p0, h0⟩ := exists_pick_of_card (x := y0) hinj (L := ∅) (by rw [Finset.card_empty]; omega)
  have c1 : (insert p0 (∅ : Finset ι)).card ≤ 1 := Finset.card_insert_le _ _
  obtain ⟨p1, h1⟩ := exists_pick_of_card (x := y0) hinj (L := insert p0 ∅) (by omega)
  have c2 : (insert p1 (insert p0 (∅ : Finset ι))).card ≤ 2 := (Finset.card_insert_le _ _).trans (by omega)
  obtain ⟨p2, h2⟩ := exists_pick_of_card (x := y0) hinj (L := insert p1 (insert p0 ∅)) (by omega)
  have c3 : (insert p2 (insert p1 (insert p0 (∅ : Finset ι)))).card ≤ 3 := (Finset.card_insert_le _ _).trans (by omega)
  obtain ⟨p3, h3⟩ := exists_pick_of_card (x := y0) hinj (L := insert p2 (insert p1 (insert p0 ∅))) (by omega)
  obtain ⟨e0, k0, n0⟩ := round hneg hinj hkey hfill h0 hw (fun i => (congrFun (masked_empty neg y0) i).symm) hM0 ha0
  obtain ⟨e1, k1, n1⟩ := round hneg hinj hkey hfill h1 hw (n0 y1 hy1.1 hy1.2) hM1 ha1
  obtain ⟨e2, k2, n2⟩ := round hneg hinj hkey hfill h2 hw (n1 y2 hy2.1 hy2.2) hM2 ha2
  obtain ⟨e3, k3, _⟩ := round hneg hinj hkey hfill h3 hw (n2 y3 hy3.1 hy3.2) hM3 ha3
  refine ⟨![p0, p1, p2, p3], Four.mk' h0 h1 h2 h3, fun r => ?_, fun r => ?_⟩
  · match r with
    | 0 => exact e0
    | 1 => exact e1
    | 2 => exact e2
    | 3 => exact e3
  · match r with
    | 0 => exact k0
    | 1 => exact k1
    | 2 => exact k2
    | 3 => exact k3

end Cert.Vocab

end
-- ==== Proof.Beams.lean ====
/-
  Four candidates of each of a row's four rays are enough: the first four of the sixteen candidates are the first four of all
  continuations.
-/
module

public import proofs.«01_k».proof.Proof.Order

@[expose] public section

noncomputable section

namespace Cert.Vocab

/-- There are four first positions among four or more. -/
theorem exists_four {ι : Type} [DecidableEq ι] [Fintype ι] {x : ι → EReal} {key : ι → ℕ} (hinj : Function.Injective key) (hcard : 4 ≤ Fintype.card ι) :
    ∃ p, Four x key p := by
  obtain ⟨p0, h0⟩ := exists_pick_of_card (x := x) hinj (L := ∅) (by rw [Finset.card_empty]; omega)
  have c1 : (insert p0 (∅ : Finset ι)).card ≤ 1 := Finset.card_insert_le _ _
  obtain ⟨p1, h1⟩ := exists_pick_of_card (x := x) hinj (L := insert p0 ∅) (by omega)
  have c2 : (insert p1 (insert p0 (∅ : Finset ι))).card ≤ 2 := (Finset.card_insert_le _ _).trans (by omega)
  obtain ⟨p2, h2⟩ := exists_pick_of_card (x := x) hinj (L := insert p1 (insert p0 ∅)) (by omega)
  have c3 : (insert p2 (insert p1 (insert p0 (∅ : Finset ι)))).card ≤ 3 := (Finset.card_insert_le _ _).trans (by omega)
  obtain ⟨p3, h3⟩ := exists_pick_of_card (x := x) hinj (L := insert p2 (insert p1 (insert p0 ∅))) (by omega)
  exact ⟨![p0, p1, p2, p3], Four.mk' h0 h1 h2 h3⟩

/-- The continuation of ray `b` by word `v`, of the 400000. -/
def at4 (b : Fin 4) (v : Fin 100000) : Fin 400000 := ⟨100000 * b.val + v.val, by omega⟩
/-- The ray and the word of a continuation. -/
def ray (j : Fin 400000) : Fin 4 := ⟨j.val / 100000, by omega⟩
def word (j : Fin 400000) : Fin 100000 := ⟨j.val % 100000, by omega⟩
theorem at4_ray_word (j : Fin 400000) : at4 (ray j) (word j) = j := Fin.ext (by simp only [at4, ray, word]; omega)
theorem ray_at4 (b : Fin 4) (v : Fin 100000) : ray (at4 b v) = b := Fin.ext (by simp only [at4, ray]; omega)
theorem word_at4 (b : Fin 4) (v : Fin 100000) : word (at4 b v) = v := Fin.ext (by simp only [at4, word]; omega)

/-- Candidate `r` of ray `b`, of the sixteen. -/
def c16 (b r : Fin 4) : Fin 16 := ⟨4 * b.val + r.val, by omega⟩
/-- The ray and the rank of a candidate. -/
def cray (c : Fin 16) : Fin 4 := ⟨c.val / 4, by omega⟩
def crank (c : Fin 16) : Fin 4 := ⟨c.val % 4, by omega⟩
theorem c16_ray_rank (c : Fin 16) : c16 (cray c) (crank c) = c := Fin.ext (by simp only [c16, cray, crank]; omega)
theorem cray_c16 (b r : Fin 4) : cray (c16 b r) = b := Fin.ext (by simp only [c16, cray]; omega)
theorem crank_c16 (b r : Fin 4) : crank (c16 b r) = r := Fin.ext (by simp only [c16, crank]; omega)

/-- The continuation a candidate stands for. -/
def contOf (q : Fin 4 → Fin 4 → Fin 100000) (c : Fin 16) : Fin 400000 := at4 (cray c) (q (cray c) (crank c))
theorem contOf_c16 (q : Fin 4 → Fin 4 → Fin 100000) (b r : Fin 4) : contOf q (c16 b r) = at4 b (q b r) := by
  rw [contOf, cray_c16, crank_c16]

/-- A candidate stands for a continuation unless its ray is finished and it is not the ray's first. -/
def Live (fin : Fin 4 → Prop) (c : Fin 16) : Prop := fin (cray c) → crank c = 0

section
variable {x : Fin 400000 → EReal} {y : Fin 16 → EReal} {fin : Fin 4 → Prop} {q : Fin 4 → Fin 4 → Fin 100000}
  (hrow : ∀ b, ¬ fin b → Four (fun v => x (at4 b v)) Fin.val (q b))
  (hpad : ∀ b, fin b → q b 0 = 0)
  (hy : ∀ c, Live fin c → y c = x (contOf q c))
  (hlow : ∀ b v, fin b → v ≠ 0 → ∀ b', x (at4 b v) < x (at4 b' (q b' 0)))
  (hdead : ∀ c, ¬ Live fin c → ∀ b', y c < x (at4 b' (q b' 0)))
include hrow hy

omit hy in
/-- Of two live candidates the one with the smaller number goes first on equal values, in the order of continuations too. -/
theorem live_key {c c' : Fin 16} (hc : Live fin c) (hc' : Live fin c') (e : x (contOf q c') = x (contOf q c)) (h : c.val < c'.val) :
    (contOf q c).val < (contOf q c').val := by
  rcases Nat.lt_or_ge (cray c).val (cray c').val with hr | hr
  · simp only [contOf, at4]; omega
  · have er : cray c' = cray c := Fin.ext (by simp only [cray] at hr ⊢; omega)
    have hk : crank c < crank c' := by
      have h1 : c.val / 4 = c'.val / 4 := (congrArg Fin.val er).symm
      show c.val % 4 < c'.val % 4
      omega
    have hf : ¬ fin (cray c) := fun hf => by
      have := hc' (er ▸ hf)
      rw [this] at hk
      exact absurd hk (Fin.not_lt_zero _)
    have hF := hrow _ hf
    have hb := (hF (crank c)).best (q (cray c) (crank c')) (fun hm => by
      obtain ⟨s, hs, es⟩ := mem_before.mp hm
      have := hF.injective es
      rw [this] at hs
      exact absurd hs (not_lt.mpr hk.le))
    simp only [contOf, er] at e ⊢
    rcases hb with hb | hb | ⟨_, hb⟩
    · exact absurd (hF.injective hb) (ne_of_gt hk)
    · exact absurd e (ne_of_lt hb)
    · simp only [at4]; omega

/-- Live candidates stand for different continuations. -/
theorem live_inj {c c' : Fin 16} (hc : Live fin c) (hc' : Live fin c') (e : contOf q c = contOf q c') : c = c' := by
  rcases lt_trichotomy c.val c'.val with h | h | h
  · exact absurd (live_key hrow hc hc' (congrArg x e.symm) h) (by rw [e]; exact lt_irrefl _)
  · exact Fin.ext h
  · exact absurd (live_key hrow hc' hc (congrArg x e) h) (by rw [e]; exact lt_irrefl _)

include hdead in
/-- The first four candidates are live: the first candidates of the four rays are, and go before whatever is not. -/
theorem four_live {p : Fin 4 → Fin 16} (h : Four y Fin.val p) (r : Fin 4) : Live fin (p r) := by
  by_contra hd
  have hb : ∀ b, c16 b 0 ∈ before p r := fun b => by
    by_contra hm
    have hl : Live fin (c16 b 0) := fun _ => crank_c16 b 0
    have hlt : y (p r) < y (c16 b 0) := by
      rw [hy _ hl, contOf_c16]
      exact hdead _ hd b
    rcases (h r).best _ hm with e | e | ⟨e, _⟩
    · rw [e] at hlt; exact lt_irrefl _ hlt
    · exact lt_asymm e hlt
    · exact absurd e (ne_of_gt hlt)
  have hi : Function.Injective fun b => c16 b 0 := fun b b' e => by
    have := congrArg cray e
    simpa only [cray_c16] using this
  have hc : (Finset.univ.image fun b => c16 b 0).card ≤ (before p r).card := Finset.card_le_card fun y hy => by
    obtain ⟨a, _, rfl⟩ := Finset.mem_image.mp hy; exact hb a
  rw [Finset.card_image_of_injective _ hi, Finset.card_univ, Fintype.card_fin] at hc
  have h1 : (before p r).card ≤ (Finset.univ.filter (· < r)).card := Finset.card_image_le
  have h2 : ∀ r : Fin 4, (Finset.univ.filter (· < r)).card < 4 := by decide
  have := h2 r
  omega

include hpad hlow hdead in
/-- THE FIRST FOUR OF ALL CONTINUATIONS are those the first four candidates stand for. -/
theorem four_of_beams {p : Fin 4 → Fin 16} (h : Four y Fin.val p) : Four x Fin.val (contOf q ∘ p) := by
  classical
  have hl := four_live hrow hy hdead h
  let p' : Fin 4 → {c // Live fin c} := fun r => ⟨p r, hl r⟩
  have hF : Four (x ∘ fun c : {c // Live fin c} => contOf q c.1) (Fin.val ∘ fun c : {c // Live fin c} => contOf q c.1) p' := fun r => by
    have hm : ∀ c : {c // Live fin c}, c ∈ before p' r ↔ c.1 ∈ before p r := fun c => by
      simp only [mem_before]
      exact ⟨fun ⟨s, hs, e⟩ => ⟨s, hs, congrArg Subtype.val e⟩, fun ⟨s, hs, e⟩ => ⟨s, hs, Subtype.ext e⟩⟩
    refine ⟨fun hc => (h r).fresh ((hm _).mp hc), fun c hc => ?_⟩
    rcases (h r).best c.1 (fun hn => hc ((hm c).mpr hn)) with e | e | ⟨e, ek⟩
    · exact .inl (Subtype.ext e)
    · rw [hy _ c.2, hy _ (hl r)] at e
      exact .inr (.inl e)
    · rw [hy _ c.2, hy _ (hl r)] at e
      exact .inr (.inr ⟨e, live_key hrow (hl r) c.2 e ek⟩)
  refine Four.of_candidates (pos := fun c : {c // Live fin c} => contOf q c.1) (p := p') (fun c c' e => Subtype.ext (live_inj hrow hy c.2 c'.2 e)) (fun j => ?_) hF
  obtain ⟨b, v, rfl⟩ : ∃ b v, j = at4 b v := ⟨ray j, word j, (at4_ray_word j).symm⟩
  by_cases hf : fin b
  · by_cases hv : v = 0
    · subst hv
      refine .inl ⟨⟨c16 b 0, fun _ => crank_c16 b 0⟩, ?_⟩
      show contOf q (c16 b 0) = _
      rw [contOf_c16, hpad b hf]
    · refine .inr ⟨fun b' => ⟨c16 b' 0, fun _ => crank_c16 b' 0⟩, fun b' b'' e => ?_, fun b' => .inl ?_⟩
      · have := congrArg (fun c : {c // Live fin c} => cray c.1) e
        simpa only [cray_c16] using this
      · show x (at4 b v) < x (contOf q (c16 b' 0))
        rw [contOf_c16]
        exact hlow b v hf hv b'
  · by_cases hv : ∃ r, q b r = v
    · obtain ⟨r, rfl⟩ := hv
      exact .inl ⟨⟨c16 b r, fun hn => absurd (by rwa [cray_c16] at hn) hf⟩, contOf_c16 q b r⟩
    · refine .inr ⟨fun r => ⟨c16 b r, fun hn => absurd (by rwa [cray_c16] at hn) hf⟩, fun r r' e => ?_, fun r => ?_⟩
      · have := congrArg (fun c : {c // Live fin c} => crank c.1) e
        simpa only [crank_c16] using this
      · show Bf x Fin.val (contOf q (c16 b r)) (at4 b v)
        rw [contOf_c16]
        rcases (hrow b hf).after r (j := v) (fun r' e => hv ⟨r', e⟩) with e | ⟨e, el⟩
        · exact .inl e
        · exact .inr ⟨e, by simp only [at4]; omega⟩

end

end Cert.Vocab

end
-- ==== Proof.Groups.lean ====
/-
  The vocabulary in twenty groups of 5000: the first four of all positions from each group's first four, and the maximum
  and the sum of exponentials of all from the groups'.
-/
module

public import proofs.«01_k».proof.Proof.Order

@[expose] public section

noncomputable section

namespace Cert.Vocab

open Idealize.ShloMosaic

/-- Position `a` of half `h` of chunk `k`. -/
def cell (k : Fin 10) (h : Fin 2) (a : Fin 5000) : Fin 100000 := ⟨10000 * k.val + 5000 * h.val + a.val, by omega⟩

/-- Chunk, half and place are the position. -/
def cells : Fin 10 × Fin 2 × Fin 5000 ≃ Fin 100000 where
  toFun t := cell t.1 t.2.1 t.2.2
  invFun j := (⟨j.val / 10000, by omega⟩, ⟨j.val % 10000 / 5000, by omega⟩, ⟨j.val % 5000, by omega⟩)
  left_inv t := by
    obtain ⟨k, h, a⟩ := t
    simp only [cell, Prod.mk.injEq]
    refine ⟨Fin.ext ?_, Fin.ext ?_, Fin.ext ?_⟩ <;> simp only <;> omega
  right_inv j := by
    apply Fin.ext
    simp only [cell]
    omega

/-- Every position is in a group. -/
theorem exists_cell (j : Fin 100000) : ∃ k h a, j = cell k h a :=
  ⟨(cells.symm j).1, (cells.symm j).2.1, (cells.symm j).2.2, (cells.apply_symm_apply j).symm⟩

/-- Different cells are different positions. -/
theorem cell_inj {k k' : Fin 10} {h h' : Fin 2} {a a' : Fin 5000} (e : cell k h a = cell k' h' a') : k = k' ∧ h = h' ∧ a = a' := by
  have := cells.injective (a₁ := (k, h, a)) (a₂ := (k', h', a')) e
  simpa using this

/-- Candidate `r` of half `h` of chunk `k`. -/
def cand (k : Fin 10) (h : Fin 2) (r : Fin 4) : Fin 80 := ⟨40 * h.val + 4 * k.val + r.val, by omega⟩
/-- A candidate's chunk. -/
def candChunk (c : Fin 80) : Fin 10 := ⟨c.val % 40 / 4, by omega⟩
/-- A candidate's half. -/
def candHalf (c : Fin 80) : Fin 2 := ⟨c.val / 40, by omega⟩
/-- A candidate's place among its group's four. -/
def candPlace (c : Fin 80) : Fin 4 := ⟨c.val % 4, by omega⟩

/-- A candidate's vocabulary position, the groups' picks given. -/
def candPos (q : Fin 10 → Fin 2 → Fin 4 → Fin 5000) (c : Fin 80) : Fin 100000 :=
  cell (candChunk c) (candHalf c) (q (candChunk c) (candHalf c) (candPlace c))

/-- … of the candidate named by its group and place. -/
theorem candPos_cand (q : Fin 10 → Fin 2 → Fin 4 → Fin 5000) (k : Fin 10) (h : Fin 2) (r : Fin 4) :
    candPos q (cand k h r) = cell k h (q k h r) := by
  have e1 : candChunk (cand k h r) = k := Fin.ext (by simp only [candChunk, cand]; omega)
  have e2 : candHalf (cand k h r) = h := Fin.ext (by simp only [candHalf, cand]; omega)
  have e3 : candPlace (cand k h r) = r := Fin.ext (by simp only [candPlace, cand]; omega)
  rw [candPos, e1, e2, e3]

variable {X : Fin 100000 → EReal} {q : Fin 10 → Fin 2 → Fin 4 → Fin 5000}
  (hq : ∀ k h, Four (fun a => X (cell k h a)) Fin.val (q k h))
include hq

/-- Different candidates are different positions. -/
theorem candPos_injective : Function.Injective (candPos q) := by
  intro c c' e
  obtain ⟨ek, eh, ea⟩ := cell_inj e
  rw [ek, eh] at ea
  have er := (hq _ _).injective ea
  have h1 : c.val % 40 / 4 = c'.val % 40 / 4 := congrArg Fin.val ek
  have h2 : c.val / 40 = c'.val / 40 := congrArg Fin.val eh
  have h3 : c.val % 4 = c'.val % 4 := congrArg Fin.val er
  exact Fin.ext (by omega)

/-- THE FIRST FOUR OF ALL from the first four candidates. -/
theorem four_of_groups {p : Fin 4 → Fin 80} (h : Four (X ∘ candPos q) (Fin.val ∘ candPos q) p) : Four X Fin.val (candPos q ∘ p) := by
  refine Four.of_candidates (candPos_injective hq) (fun j => ?_) h
  obtain ⟨k, hf, a, rfl⟩ := exists_cell j
  by_cases ha : ∃ r, q k hf r = a
  · obtain ⟨r, rfl⟩ := ha
    exact .inl ⟨cand k hf r, candPos_cand q k hf r⟩
  · refine .inr ⟨cand k hf, fun r r' e => Fin.ext ?_, fun r => ?_⟩
    · have : 40 * hf.val + 4 * k.val + r.val = 40 * hf.val + 4 * k.val + r'.val := congrArg Fin.val e
      omega
    · rw [candPos_cand]
      rcases (hq k hf).after r (j := a) (fun r' e => ha ⟨r', e⟩) with e | ⟨e, el⟩
      · exact .inl e
      · exact .inr ⟨e, by simp only [cell]; omega⟩

end Cert.Vocab

end
-- ==== Proof.Lse.lean ====
/-
  The logarithm of a sum of exponentials over the vocabulary from the twenty groups' maxima and sums.
-/
module

public import proofs.«01_k».proof.Proof.Groups
public import Idealize.ShloMosaic.PureOps.Ideal.Laws

@[expose] public section

noncomputable section

namespace Cert.Vocab

open Idealize.ShloMosaic

/-- The maximum of a family of numbers. -/
abbrev top {ι : Type*} [Fintype ι] (y : ι → EReal) : EReal := Finset.univ.fold max ⊥ y

/-- The maximum is an upper bound, the least one. -/
theorem top_le {ι : Type*} [Fintype ι] {y : ι → EReal} {b : EReal} : top y ≤ b ↔ ∀ i, y i ≤ b := by
  rw [top, Finset.fold_max_le]
  simp

/-- The maximum of finite numbers is finite. -/
theorem top_coe {ι : Type*} [Fintype ι] [Nonempty ι] (f : ι → ℝ) : ∃ m : ℝ, top (fun i => (f i : EReal)) = m := by
  obtain ⟨i, hi⟩ := Finite.exists_max f
  exact ⟨f i, le_antisymm (top_le.mpr fun j => EReal.coe_le_coe (hi j)) (top_le.mp (le_refl (top fun i => (f i : EReal))) i)⟩

/-- A sum of finite numbers. -/
theorem sum_coe {ι : Type*} [Fintype ι] (f : ι → ℝ) : (∑ i, (f i : EReal)) = ((∑ i, f i : ℝ) : EReal) := by
  classical
  refine Finset.induction_on (Finset.univ : Finset ι) (by simp) fun a s ha h => ?_
  rw [Finset.sum_insert ha, Finset.sum_insert ha, h, EReal.coe_add]

/-- The sum of the exponentials over a reference value. -/
def mass {ι : Type*} [Fintype ι] (f : ι → ℝ) (m : ℝ) : ℝ := ∑ i, Real.exp (f i - m)

/-- … as it is written with the operations on extended reals. -/
theorem mass_eq {ι : Type*} [Fintype ι] (f : ι → ℝ) (m : ℝ) : (∑ i, Ideal.exp ((f i : EReal) - m)) = (mass f m : EReal) := by
  rw [mass, ← sum_coe]
  exact Finset.sum_congr rfl fun i _ => by rw [← EReal.coe_sub, Ideal.exp_coe]

/-- Changing the reference value scales the sum. -/
theorem mass_scale {ι : Type*} [Fintype ι] (f : ι → ℝ) (m m' : ℝ) : mass f m * Real.exp (m - m') = mass f m' := by
  rw [mass, mass, Finset.sum_mul]
  exact Finset.sum_congr rfl fun i _ => by rw [← Real.exp_add]; congr 1; ring

/-- … as it is written with the operations on extended reals. -/
theorem mass_rescale {ι : Type*} [Fintype ι] (f : ι → ℝ) (m m' : ℝ) :
    (mass f m : EReal) * Ideal.exp ((m : EReal) - m') = (mass f m' : EReal) := by
  rw [← EReal.coe_sub, Ideal.exp_coe, ← EReal.coe_mul, mass_scale]

/-- The maximum over all positions is the greater of the halves' maxima over the chunks. -/
theorem top_cells (X : Fin 100000 → EReal) :
    max (top fun k : Fin 10 => top fun a : Fin 5000 => X (cell k 0 a)) (top fun k : Fin 10 => top fun a : Fin 5000 => X (cell k 1 a)) = top X := by
  refine le_antisymm (max_le ?_ ?_) (top_le.mpr fun j => ?_)
  · exact top_le.mpr fun k => top_le.mpr fun a => top_le.mp le_rfl _
  · exact top_le.mpr fun k => top_le.mpr fun a => top_le.mp le_rfl _
  · obtain ⟨k, h, a, rfl⟩ := exists_cell j
    have hh : X (cell k h a) ≤ top fun k : Fin 10 => top fun a : Fin 5000 => X (cell k h a) :=
      (top_le.mp (le_refl (top fun a : Fin 5000 => X (cell k h a))) a).trans
        (top_le.mp (le_refl (top fun k : Fin 10 => top fun a : Fin 5000 => X (cell k h a))) k)
    match h with
    | 0 => exact hh.trans (le_max_left _ _)
    | 1 => exact hh.trans (le_max_right _ _)

/-- A sum over all positions is the sum over chunks, halves and places. -/
theorem sum_cells (g : Fin 100000 → ℝ) : ∑ v, g v = ∑ k : Fin 10, ∑ h : Fin 2, ∑ a : Fin 5000, g (cell k h a) := by
  rw [← Equiv.sum_comp cells g, Fintype.sum_prod_type]
  refine Finset.sum_congr rfl fun k _ => ?_
  rw [Fintype.sum_prod_type]
  exact Finset.sum_congr rfl fun h _ => Finset.sum_congr rfl fun a _ => rfl

/-- The sum over all positions, group by group. -/
theorem mass_cells (f : Fin 100000 → ℝ) (m : ℝ) :
    (∑ k : Fin 10, mass (fun a => f (cell k 0 a)) m) + (∑ k : Fin 10, mass (fun a => f (cell k 1 a)) m) = mass f m := by
  have : mass f m = ∑ k : Fin 10, ∑ h : Fin 2, mass (fun a => f (cell k h a)) m := by
    exact sum_cells fun v => Real.exp (f v - m)
  rw [this, ← Finset.sum_add_distrib]
  exact Finset.sum_congr rfl fun k _ => (Fin.sum_univ_two fun h : Fin 2 => mass (fun a => f (cell k h a)) m).symm

/-- The sum is positive: some term is. -/
theorem mass_pos {ι : Type*} [Fintype ι] [Nonempty ι] (f : ι → ℝ) (m : ℝ) : 0 < mass f m :=
  Finset.sum_pos (fun _ _ => Real.exp_pos _) Finset.univ_nonempty

/-- One half's maximum over the chunks, and its sum brought to that maximum. -/
theorem half_sum (f : Fin 10 → Fin 5000 → ℝ) (A : EReal) (hA : A = top fun k => top fun a => (f k a : EReal)) :
    ∃ α : ℝ, A = α ∧ (∑ k : Fin 10, (∑ a : Fin 5000, Ideal.exp ((f k a : EReal) - top fun a => (f k a : EReal)))
      * Ideal.exp ((top fun a => (f k a : EReal)) - A)) = ((∑ k : Fin 10, mass (f k) α : ℝ) : EReal) := by
  choose μ hμ using fun k => top_coe (f k)
  obtain ⟨α, hα⟩ := top_coe μ
  have e : A = α := by rw [hA]; simpa only [hμ] using hα
  refine ⟨α, e, ?_⟩
  rw [← sum_coe]
  exact Finset.sum_congr rfl fun k _ => by rw [hμ, mass_eq, e, mass_rescale]

/-- THE TWO FORMS of the logarithm of the sum of exponentials agree. -/
theorem lse_cells (f : Fin 100000 → ℝ) (A B : EReal)
    (hA : A = top fun k : Fin 10 => top fun a : Fin 5000 => (f (cell k 0 a) : EReal))
    (hB : B = top fun k : Fin 10 => top fun a : Fin 5000 => (f (cell k 1 a) : EReal)) :
    max A B + Ideal.log
      ((∑ k : Fin 10, (∑ a : Fin 5000, Ideal.exp ((f (cell k 0 a) : EReal) - top fun a => (f (cell k 0 a) : EReal)))
          * Ideal.exp ((top fun a : Fin 5000 => (f (cell k 0 a) : EReal)) - A)) * Ideal.exp (A - max A B)
        + (∑ k : Fin 10, (∑ a : Fin 5000, Ideal.exp ((f (cell k 1 a) : EReal) - top fun a => (f (cell k 1 a) : EReal)))
          * Ideal.exp ((top fun a : Fin 5000 => (f (cell k 1 a) : EReal)) - B)) * Ideal.exp (B - max A B))
    = Ideal.log (∑ v, Ideal.exp ((f v : EReal) - top fun v => (f v : EReal))) + top fun v => (f v : EReal) := by
  obtain ⟨α, eα, sα⟩ := half_sum (fun k a => f (cell k 0 a)) A hA
  obtain ⟨β, eβ, sβ⟩ := half_sum (fun k a => f (cell k 1 a)) B hB
  obtain ⟨μ, hμ⟩ := top_coe f
  have hm : max A B = μ := by rw [hA, hB, ← hμ]; exact top_cells fun v => (f v : EReal)
  have scale : ∀ (g : Fin 10 → Fin 5000 → ℝ) (γ : ℝ), ((∑ k, mass (g k) γ : ℝ) : EReal) * Ideal.exp ((γ : EReal) - μ)
      = ((∑ k, mass (g k) μ : ℝ) : EReal) := fun g γ => by
    rw [← EReal.coe_sub, Ideal.exp_coe, ← EReal.coe_mul, Finset.sum_mul]
    exact congrArg _ (Finset.sum_congr rfl fun k _ => mass_scale _ _ _)
  rw [sα, sβ, hm, hμ, eα, eβ, scale, scale, ← EReal.coe_add, mass_cells, mass_eq, add_comm]

end Cert.Vocab

end
-- ==== Proof.Score.lean ====
/-
  A row's step with exact numbers: the totals of all continuations of its four rays and of the sixteen candidates, and that the
  first four are the same.
-/
module

public import proofs.«01_k».proof.Proof.Beams
public import proofs.«01_k».proof.Proof.Lse

@[expose] public section

noncomputable section

namespace Cert.Vocab

open Idealize.ShloMosaic

/-- The first four stay the first four under a change of values that keeps the order. -/
theorem Four.of_order {ι : Type} [DecidableEq ι] {x x' : ι → EReal} {key : ι → ℕ} {p : Fin 4 → ι} (h : Four x key p) (hlt : ∀ i j, x i < x j ↔ x' i < x' j) :
    Four x' key p := fun r => by
  refine ⟨(h r).fresh, fun j hj => ?_⟩
  rcases (h r).best j hj with e | e | ⟨e, hk⟩
  · exact .inl e
  · exact .inr (.inl ((hlt _ _).mp e))
  · refine .inr (.inr ⟨le_antisymm (not_lt.mp fun hh => ?_) (not_lt.mp fun hh => ?_), hk⟩)
    · exact absurd e (ne_of_gt ((hlt _ _).mpr hh))
    · exact absurd e (ne_of_lt ((hlt _ _).mpr hh))

/-- The first of the four is the greatest. -/
theorem Four.first_top {x : Fin 100000 → EReal} {p : Fin 4 → Fin 100000} (h : Four x Fin.val p) : top x = x (p 0) := by
  refine le_antisymm (top_le.mpr fun v => ?_) (top_le.mp le_rfl _)
  rcases (h 0).best v (by rw [before_zero]; exact Finset.notMem_empty _) with e | e | ⟨e, _⟩
  · rw [e]
  · exact e.le
  · exact e.le

/-- The logarithm of the sum of exponentials over the greatest is a real number not above a hundred thousand. -/
theorem log_mass (f : Fin 100000 → ℝ) (m : ℝ) (hm : ∀ v, f v ≤ m) :
    ∃ g : ℝ, Ideal.log (∑ v, Ideal.exp ((f v : EReal) - m)) = g ∧ g ≤ 100000 := by
  have hp := mass_pos f m
  refine ⟨Real.log (mass f m), ?_, ?_⟩
  · rw [mass_eq, Ideal.log_coe, if_neg (not_le.mpr hp)]
  · refine (Real.log_le_self hp.le).trans ?_
    have : mass f m ≤ ∑ _v : Fin 100000, (1 : ℝ) := Finset.sum_le_sum fun v _ => by
      rw [Real.exp_le_one_iff]
      exact sub_nonpos.mpr (hm v)
    refine this.trans ?_
    rw [Finset.sum_const, Finset.card_univ, Fintype.card_fin]
    norm_num

/-- A ray's logarithm of the sum of exponentials, over the greatest logit. -/
def rayLog (X : Fin 100000 → EReal) : EReal := Ideal.log (∑ v, Ideal.exp (X v - top X))

/-- The total of a continuation: the ray's score and the word's log-probability; of a finished ray, the padding at no cost and
    every other word at `neg`. -/
def wordTotal (neg s : EReal) (fin : Prop) [Decidable fin] (X : Fin 100000 → EReal) (v : Fin 100000) : EReal :=
  s + if fin then (if v = 0 then 0 else neg) else X v - top X - rayLog X

/-- The total of a candidate, as the kernel makes it from the pass's results. -/
def candTotal (neg s : EReal) (fin : Prop) [Decidable fin] (X : Fin 100000 → EReal) (P : Fin 4 → Fin 100000) (r : Fin 4) : EReal :=
  s + if fin then (if r = 0 then 0 else neg) else X (P r) - (rayLog X + top X)

/-- The words the candidates stand for: a finished ray's are the padding. -/
def candWord (fin : Fin 4 → Prop) [DecidablePred fin] (P : Fin 4 → Fin 4 → Fin 100000) (b r : Fin 4) : Fin 100000 := if fin b then 0 else P b r

/-- Division by a positive real number. -/
theorem div_real {a d : ℝ} (hd : 0 < d) : Ideal.div (a : EReal) (d : EReal) = ((a * (1 / d) : ℝ) : EReal) := by
  rw [Ideal.div_coe hd.ne', EReal.coe_mul]

/-- … keeps the order. -/
theorem div_order {ι : Type} {t : ι → ℝ} {x : ι → EReal} (hx : ∀ i, x i = t i) {d : ℝ} (hd : 0 < d) (i j : ι) :
    t i < t j ↔ Ideal.div (x i) (d : EReal) < Ideal.div (x j) (d : EReal) := by
  rw [hx, hx, div_real hd, div_real hd, EReal.coe_lt_coe_iff]
  exact (mul_lt_mul_iff_left₀ (one_div_pos.mpr hd)).symm

/-- THE STEP: the first four of the sixteen candidates stand for the first four of the 400000 continuations, and their totals
    are those continuations'. -/
theorem step_four {neg pen : EReal} (hneg : neg = ((-1000000000 : ℝ) : EReal)) (hpen : ∃ d : ℝ, 0 < d ∧ pen = d)
    {s : Fin 4 → EReal} (hs : ∀ b, ∃ a : ℝ, s b = a ∧ |a| ≤ 100000000) {fin : Fin 4 → Prop} [DecidablePred fin]
    {X : Fin 4 → Fin 100000 → EReal} (hX : ∀ b, ∃ f : Fin 100000 → ℝ, ∀ v, X b v = f v)
    {P : Fin 4 → Fin 4 → Fin 100000} (hP : ∀ b, Four (X b) Fin.val (P b))
    {T : Fin 400000 → EReal} (hT : ∀ b v, T (at4 b v) = wordTotal neg (s b) (fin b) (X b) v)
    {K : Fin 16 → EReal} (hK : ∀ b r, K (c16 b r) = candTotal neg (s b) (fin b) (X b) (P b) r) :
    ∃ p : Fin 4 → Fin 16, Four (fun c => Ideal.div (K c) pen) Fin.val p
      ∧ Four (fun j => Ideal.div (T j) pen) Fin.val (contOf (candWord fin P) ∘ p)
      ∧ ∀ r, K (p r) = T (contOf (candWord fin P) (p r)) := by
  obtain ⟨d, hd, rfl⟩ := hpen
  choose a ha ha' using hs
  choose f hf using hX
  have htop : ∀ b, top (X b) = (f b (P b 0) : EReal) := fun b => (hP b).first_top.trans (hf b _)
  have hle : ∀ b v, f b v ≤ f b (P b 0) := fun b v => by
    have : X b v ≤ top (X b) := top_le.mp le_rfl v
    rwa [htop, hf, EReal.coe_le_coe_iff] at this
  choose g hg hg' using fun b => log_mass (f b) (f b (P b 0)) (hle b)
  have hlog : ∀ b, rayLog (X b) = g b := fun b => by
    rw [rayLog, htop, ← hg b]
    simp only [hf]
  -- the totals as real numbers
  obtain ⟨t, ht⟩ : ∃ t : Fin 4 → Fin 100000 → ℝ, ∀ b v, t b v = a b + if fin b then (if v = 0 then 0 else -1000000000) else f b v - f b (P b 0) - g b := ⟨_, fun _ _ => rfl⟩
  have hTt : ∀ b v, T (at4 b v) = t b v := fun b v => by
    rw [hT, wordTotal, ha, htop, hlog, hf, hneg, ht]
    by_cases hfin : fin b
    · by_cases hv : v = 0
      · rw [if_pos hfin, if_pos hv, if_pos hfin, if_pos hv]; simp
      · rw [if_pos hfin, if_neg hv, if_pos hfin, if_neg hv, EReal.coe_add]
    · rw [if_neg hfin, if_neg hfin, EReal.coe_add, EReal.coe_sub, EReal.coe_sub]
  obtain ⟨k, hk⟩ : ∃ k : Fin 4 → Fin 4 → ℝ, ∀ b r, k b r = a b + if fin b then (if r = 0 then 0 else -1000000000) else f b (P b r) - f b (P b 0) - g b := ⟨_, fun _ _ => rfl⟩
  have hKk : ∀ b r, K (c16 b r) = k b r := fun b r => by
    rw [hK, candTotal, ha, htop, hlog, hf, hneg, hk]
    by_cases hfin : fin b
    · by_cases hv : r = 0
      · rw [if_pos hfin, if_pos hv, if_pos hfin, if_pos hv]; simp
      · rw [if_pos hfin, if_neg hv, if_pos hfin, if_neg hv, EReal.coe_add]
    · rw [if_neg hfin, if_neg hfin, ← EReal.coe_add, ← EReal.coe_sub, ← EReal.coe_add]
      congr 2
      ring
  have hTj : ∀ j, T j = t (ray j) (word j) := fun j => by rw [← hTt, at4_ray_word]
  have hKc : ∀ c, K c = k (cray c) (crank c) := fun c => by rw [← hKk, c16_ray_rank]
  have hxlt := div_order hTj hd
  have hylt := div_order hKc hd
  -- the first candidates are far above the dead ones
  have hhigh : ∀ b, -200000000 ≤ t b (candWord fin P b 0) := fun b => by
    have h1 := (abs_le.mp (ha' b)).1
    have h2 := hg' b
    rw [ht, candWord]
    by_cases hfin : fin b
    · rw [if_pos hfin, if_pos hfin, if_pos rfl]; linarith
    · rw [if_neg hfin, if_neg hfin]; linarith
  have hlive : ∀ c, Live fin c → K c = T (contOf (candWord fin P) c) := fun c hc => by
    rw [hKc, contOf, hTt, hk, ht, candWord]
    by_cases hfin : fin (cray c)
    · rw [if_pos hfin, if_pos hfin, if_pos hfin, if_pos (hc hfin), if_pos rfl]
    · rw [if_neg hfin, if_neg hfin, if_neg hfin]
  have hrow : ∀ b, ¬ fin b → Four (fun v => Ideal.div (T (at4 b v)) (d : EReal)) Fin.val (candWord fin P b) := fun b hfin => by
    have e : candWord fin P b = P b := funext fun r => if_neg hfin
    rw [e]
    refine (hP b).of_order fun i j => ?_
    rw [hf, hf, EReal.coe_lt_coe_iff, ← div_order (hTt b) hd i j, ht, ht, if_neg hfin, if_neg hfin]
    constructor <;> intro h <;> linarith
  have hpad : ∀ b, fin b → candWord fin P b 0 = 0 := fun b hfin => if_pos hfin
  have hy : ∀ c, Live fin c → Ideal.div (K c) (d : EReal) = Ideal.div (T (contOf (candWord fin P) c)) (d : EReal) := fun c hc => by rw [hlive c hc]
  have hlow : ∀ b v, fin b → v ≠ 0 → ∀ b', Ideal.div (T (at4 b v)) (d : EReal) < Ideal.div (T (at4 b' (candWord fin P b' 0))) (d : EReal) := fun b v hfin hv b' => by
    rw [← hxlt, ray_at4, word_at4, ray_at4, word_at4, ht b v, if_pos hfin, if_neg hv]
    have h1 := (abs_le.mp (ha' b)).2
    have h2 := hhigh b'
    linarith
  have hdead : ∀ c, ¬ Live fin c → ∀ b', Ideal.div (K c) (d : EReal) < Ideal.div (T (at4 b' (candWord fin P b' 0))) (d : EReal) := fun c hc b' => by
    obtain ⟨hfin, hr⟩ : fin (cray c) ∧ crank c ≠ 0 := by
      unfold Live at hc
      exact Classical.not_imp.mp hc
    rw [hKc, hTt, div_real hd, div_real hd, EReal.coe_lt_coe_iff, mul_lt_mul_iff_left₀ (one_div_pos.mpr hd), hk, if_pos hfin, if_neg hr]
    have h1 := (abs_le.mp (ha' (cray c))).2
    have h2 := hhigh b'
    linarith
  obtain ⟨p, hp⟩ := exists_four (x := fun c : Fin 16 => Ideal.div (K c) (d : EReal)) (key := Fin.val) Fin.val_injective (by simp)
  exact ⟨p, hp, four_of_beams (x := fun j => Ideal.div (T j) (d : EReal)) hrow hpad hy hlow hdead hp,
    fun r => hlive _ (four_live (x := fun j => Ideal.div (T j) (d : EReal)) hrow hy hdead hp r)⟩

end Cert.Vocab

end
-- ==== Proof.Sorted.lean ====
/-
  The first four of a stable sort by "greater" are the four greatest, equal ones by position.
-/
module

public import proofs.«01_k».proof.Proof.Order
public import Idealize.ShloMosaic.Lib.SortPrefix

@[expose] public section

noncomputable section

namespace Cert.Vocab

open Idealize.ShloMosaic

variable {n : ℕ} (x : Fin n → EReal)

/-- Greater. -/
def gtB (i j : Fin n) : Bool := decide (x j < x i)
/-- Greater, or equal and earlier. -/
def gtOrEarlier (i j : Fin n) : Bool := decide (x j < x i) || (decide (x i = x j) && decide (i < j))

/-- A stable sort of increasing positions by "greater" is the sort by "greater, or equal and earlier". -/
theorem stableSort_gt (l : List (Fin n)) (hl : l.Pairwise (· < ·)) : stableSort (gtB x) l = stableSort (gtOrEarlier x) l := by
  induction l with
  | nil => rfl
  | cons a l ih =>
    rw [List.pairwise_cons] at hl
    unfold stableSort
    rw [ih hl.2]
    refine insertBefore_congr _ _ a _ fun b hb => ?_
    have hb' := hl.1 b ((perm_stableSort _ l).mem_iff.mp hb)
    simp only [gtB, gtOrEarlier, not_lt.mpr hb'.le, decide_false, Bool.and_false, Bool.or_false]

/-- … position by position. -/
theorem sortedFrom_gt : sortedFrom (gtB x) = sortedFrom (gtOrEarlier x) := by
  funext k
  unfold sortedFrom
  have h : sortPositions n (gtB x) = sortPositions n (gtOrEarlier x) := stableSort_gt x _ (List.pairwise_lt_finRange n)
  rw [List.get_of_eq h]
  rfl

/-- "Greater, or equal and earlier" is a strict total order on the positions. -/
theorem gtOrEarlier_total : StrictTotalBefore (gtOrEarlier x) :=
  StrictTotalBefore.of_key_then_position (fun a b : EReal => decide (b < a)) x (fun a => by simp)
    (fun a b c hab hbc => by simp only [decide_eq_true_eq] at *; exact hbc.trans hab)
    (fun a b => by
      simp only [decide_eq_true_eq]
      rcases lt_trichotomy a b with h | h | h
      · exact .inr (.inr h)
      · exact .inr (.inl h)
      · exact .inl h)

/-- The order of this directory, as a Boolean. -/
theorem gtOrEarlier_iff (i j : Fin n) : gtOrEarlier x i j = true ↔ Bf x Fin.val i j := by
  simp only [gtOrEarlier, Bf, Bool.or_eq_true, Bool.and_eq_true, decide_eq_true_eq]
  exact or_congr Iff.rfl (and_congr eq_comm Iff.rfl)

/-- THE SORT'S FIRST FOUR: `p`, where `p` are the first four in the order. -/
theorem sortedFrom_four {p : Fin 4 → Fin n} (h : Four x Fin.val p) (hk : 4 ≤ n) (r : Fin 4) :
    sortedFrom (gtB x) (r.castLE hk) = p r := by
  have not : ∀ {i j : Fin n}, Bf x Fin.val j i → gtOrEarlier x i j = false := fun {i j} hb => by
    rw [← Bool.not_eq_true, gtOrEarlier_iff]
    exact fun h' => Bf.asymm hb h'
  rw [sortedFrom_gt]
  refine (gtOrEarlier_total x).sortedFrom_eq_of_prefix hk p h.injective (fun i j hij => not ?_)
    (fun i j hj => not (h.after i hj)) r
  refine ((h i).best (p j) fun hm => ?_).resolve_left fun e => hij.ne' (h.injective e)
  obtain ⟨q, hq, e⟩ := mem_before.mp hm
  exact absurd (h.injective e ▸ hq) (not_lt.mpr hij.le)

end Cert.Vocab

end
-- ==== Proof.Index.lean ====
/-
  The operations on indices around the pass, read at an entry: the first four of each row, and taking entries along a row.
-/
module

public import proofs.«01_k».proof.Proof.Sorted
public import proofs.«01_k».proof.Proof.Gen.KernelIdeal
public import Idealize.ShloMosaic.Lib.Pointwise
public import Idealize.ShloMosaic.Lib.ValueIdx
public import Idealize.ShloMosaic.Lib.Routing.Words
public import Idealize.ShloMosaic.PureOps.Ideal.Laws

@[expose] public section

set_option maxRecDepth 16384

noncomputable section

namespace Cert.Vocab

open Idealize.ShloMosaic

/-- The sort's comparison is the order's. -/
theorem cmp_gt (a b : EReal) : (FloatOps.cmpfTotal (F := Ideal) (φ := .f32) .gt a b == 1#1) = decide (b < a) := by
  rw [Ideal.cmpfTotal_def]
  by_cases h : b < a <;> simp [Ideal.cmp, CmpDirection.ordered, h]

/-- The positions of the first four of each row of an array. -/
theorem topK_rows {R n : ℕ} (hn : 4 ≤ n) (hs : (⟨2, ![R, n]⟩ : Shape).Slices (fun _ => 0) ⟨2, ![R, 4]⟩) (x : FVec Ideal ⟨2, ![R, n]⟩ .f32)
    (l : Fin R) (r : Fin 4) {p : Fin 4 → Fin n} (h : Four (fun v => x (ix2 l v)) Fin.val p) :
    (Host.topK ⟨2, ![R, 4]⟩ 1 (FloatOps.cmpfTotal .gt) x hs).2 (ix2 l r) = BitVec.ofNat 32 (p r).val := by
  have al : ∀ (J : (⟨2, ![R, n]⟩ : Shape).Idx), J 0 = l → ∀ k : Fin n, J.along 1 k = ix2 l k := fun J hJ k => by
    funext a
    match a with
    | 0 => exact (Function.update_of_ne (show (0 : Fin 2) ≠ 1 by decide) _ _).trans hJ
    | 1 => exact Function.update_self _ _ _
  have e := sortedFrom_four (fun v => x (ix2 l v)) h hn r
  have g : ∃ J : (⟨2, ![R, n]⟩ : Shape).Idx, J 0 = l ∧ J 1 = r.castLE hn
      ∧ (Host.topK ⟨2, ![R, 4]⟩ 1 (FloatOps.cmpfTotal .gt) x hs).2 (ix2 l r)
        = BitVec.ofNat 32 (J.along 1 (sortedFrom (fun k k' => FloatOps.cmpfTotal (F := Ideal) (φ := .f32) .gt (x (J.along 1 k)) (x (J.along 1 k')) == 1#1) (J 1)) 1).val :=
    ⟨fun a => ⟨0 + (ix2 l r (a.cast rfl)).val, Nat.lt_of_lt_of_le (Nat.add_lt_add_left (ix2 l r _).isLt _) (hs.2 a)⟩,
      Fin.ext (Nat.zero_add _), Fin.ext (Nat.zero_add _), rfl⟩
  obtain ⟨J, hJ0, hJ1, h2⟩ := g
  have key : J.along 1 (sortedFrom (fun k k' => FloatOps.cmpfTotal (F := Ideal) (φ := .f32) .gt (x (J.along 1 k)) (x (J.along 1 k')) == 1#1) (J 1)) = ix2 l (p r) := by
    have eJ : (fun k k' : Fin n => FloatOps.cmpfTotal (F := Ideal) (φ := .f32) .gt (x (J.along 1 k)) (x (J.along 1 k')) == 1#1) = gtB fun v => x (ix2 l v) := by
      funext k k'
      exact (congrArg₂ (fun i i' => FloatOps.cmpfTotal (F := Ideal) (φ := .f32) .gt (x i) (x i') == 1#1) (al J hJ0 k) (al J hJ0 k')).trans (cmp_gt _ _)
    refine (al J hJ0 _).trans (congrArg (ix2 (n0 := R) (n1 := n) l) ?_)
    exact (congrFun (congrArg (sortedFrom (n := n)) eJ) (J 1)).trans ((congrArg (sortedFrom (gtB fun v => x (ix2 l v))) hJ1).trans e)
  exact h2.trans (congrArg (fun i : (⟨2, ![R, n]⟩ : Shape).Idx => BitVec.ofNat 32 (i 1).val) key)

/-! ## Entries taken along a row -/

/-- The gather of entries along the rows. -/
abbrev alongDims (R N C : ℕ) (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- … read at an entry. -/
theorem gather_along {α : Type} {R N C w : ℕ} (hN : 0 < N) (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (l : Fin R) (r : Fin C) :
    Host.gather (alongDims R N C wf) x idx (ix2 l r) = x (ix2 l ⟨min (idx (ix3 l r 0)).toInt.toNat (N - 1), by omega⟩) := by
  unfold Host.gather
  congr 1
  funext a
  refine Fin.ext ?_
  show (alongDims R N C wf).start (ix2 l r) idx a + (alongDims R N C wf).batchCoord (ix2 l r) a + (alongDims R N C wf).offCoord (ix2 l r) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N C wf).startIndexMap from List.mem_singleton.mpr rfl)]
    have hsi : (alongDims R N C wf).siIdx (ix2 l r) ⟨List.idxOf (1 : Fin 2) (alongDims R N C wf).startIndexMap,
        List.idxOf_lt_length_iff.2 (List.mem_singleton.mpr rfl)⟩ = ix3 l r 0 := by
      funext b; refine Fin.ext ?_
      match b with
      | ⟨0, _⟩ => rfl
      | ⟨1, _⟩ => rfl
      | ⟨2, _⟩ => rfl
    rw [hsi]
    rfl

open Cert.KernelIdeal Cert.KernelIdeal.Gen

/-- The indices as the gather takes them: negative ones counted from the row's end. -/
def wrapped (n : BitVec 32) (idx : IVec S16x4 32) : IVec S16x4x1 32 :=
  shapeCast _ (select (cmpi .slt idx (broadcastInDim S16x4 ![] bcast_S_S16x4 (constantI S_ 32 0#32)))
    (addi idx (broadcastInDim S16x4 ![] bcast_S_S16x4 (constantI S_ 32 n))) idx) shapeCasts_S16x4_S16x4x1

/-- Entries taken along the rows, `junk` where the index is out of the row. -/
def takeAlong {α : Type} (N : ℕ) (wf : GatherDims.WF ⟨2, ![16, N]⟩ S16x4x1 S16x4 [] [1] [0] [1] [0] 2 ![1, 1]) (n last : BitVec 32)
    (x : (⟨2, ![16, N]⟩ : Shape).Idx → α) (idx : IVec S16x4 32) (junk : S16x4.Idx → α) : S16x4.Idx → α :=
  select (Host.reduce IntOp.andi (andi (cmpi .sge (wrapped n idx) (broadcastInDim S16x4x1 ![] bcast_S_S16x4x1 (constantI S_ 32 0#32)))
      (cmpi .sle (wrapped n idx) (broadcastInDim S16x4x1 ![0, 1, 2] bcast_S1x1x1_S16x4x1_0_1_2 (broadcastInDim S1x1x1 ![2] bcast_S1_S1x1x1_2 (constantI S1 32 last)))))
      (constantI S_ 1 1#1) reducesTo_S16x4x1_S16x4_d2 h_S_)
    (Host.gather (alongDims 16 N 4 wf) x (wrapped n idx)) junk

/-- A word below 2³¹ read signed. -/
theorem toInt_word {k : ℕ} (hk : k < 2 ^ 31) : (BitVec.ofNat 32 k).toInt = k := by
  rw [BitVec.toInt_eq_toNat_of_lt (by rw [BitVec.toNat_ofNat]; omega), BitVec.toNat_ofNat]
  omega

/-- An index that is a place of the row is taken as it is. -/
theorem wrapped_apply (n : BitVec 32) (idx : IVec S16x4 32) (l : Fin 16) (r : Fin 4) {k : ℕ} (hk : k < 2 ^ 31) (h : idx (ix2 l r) = BitVec.ofNat 32 k) :
    wrapped n idx (ix3 l r 0) = BitVec.ofNat 32 k := by
  have e : wrapped n idx (ix3 l r 0) = Scalar.select (IntOp.cmpi .slt (idx (ix2 l r)) 0#32) (IntOp.addi (idx (ix2 l r)) n) (idx (ix2 l r)) := by
    pointwise [wrapped]
  rw [e, h]
  have : IntOp.cmpi .slt (BitVec.ofNat 32 k) 0#32 = 0#1 := by
    simp only [IntOp.cmpi, BitVec.slt, toInt_word hk, show (0#32 : BitVec 32).toInt = 0 from rfl, decide_eq_false (show ¬ (k : ℤ) < 0 by omega)]
    rfl
  rw [this]
  rfl

/-- ENTRIES TAKEN ALONG A ROW at an index that is a place of it. -/
theorem takeAlong_apply {α : Type} {N : ℕ} (hN : 0 < N) (hN' : N < 2 ^ 31) (wf : GatherDims.WF ⟨2, ![16, N]⟩ S16x4x1 S16x4 [] [1] [0] [1] [0] 2 ![1, 1]) (n : BitVec 32)
    (x : (⟨2, ![16, N]⟩ : Shape).Idx → α) (idx : IVec S16x4 32) (junk : S16x4.Idx → α) (l : Fin 16) (r : Fin 4) (k : Fin N) (h : idx (ix2 l r) = BitVec.ofNat 32 k.val) :
    takeAlong N wf n (BitVec.ofNat 32 (N - 1)) x idx junk (ix2 l r) = x (ix2 l k) := by
  have hk : k.val < 2 ^ 31 := k.isLt.trans hN'
  have hw := wrapped_apply n idx l r hk h
  have ge : IntOp.cmpi .sge (BitVec.ofNat 32 k.val) 0#32 = 1#1 := by
    simp [IntOp.cmpi, BitVec.sle, toInt_word hk]
  have le : IntOp.cmpi .sle (BitVec.ofNat 32 k.val) (BitVec.ofNat 32 (N - 1)) = 1#1 := by
    have := k.isLt
    simp only [IntOp.cmpi, BitVec.sle, toInt_word hk, toInt_word (show N - 1 < 2 ^ 31 by omega), decide_eq_true (show (k.val : ℤ) ≤ ((N - 1 : ℕ) : ℤ) by omega)]
    rfl
  have hm : Host.reduce IntOp.andi (andi (cmpi .sge (wrapped n idx) (broadcastInDim S16x4x1 ![] bcast_S_S16x4x1 (constantI S_ 32 0#32)))
      (cmpi .sle (wrapped n idx) (broadcastInDim S16x4x1 ![0, 1, 2] bcast_S1x1x1_S16x4x1_0_1_2 (broadcastInDim S1x1x1 ![2] bcast_S1_S1x1x1_2 (constantI S1 32 (BitVec.ofNat 32 (N - 1)))))))
      (constantI S_ 1 1#1) reducesTo_S16x4x1_S16x4_d2 h_S_ (ix2 l r) = 1#1 := by
    have hr : S16x4x1.Reduces [2] S16x4 := by decide
    refine (Host.reduce_eq_fold_single IntOp.andi _ _ reducesTo_S16x4x1_S16x4_d2 hr h_S_ _).trans ?_
    refine (Finset.fold_congr (g := fun _ => 1#1) fun j _ => ?_).trans (by rfl)
    have hl : hr.lift (ix2 l r) j = ix3 l r 0 := by
      funext b; refine Fin.ext ?_
      match b with
      | ⟨0, _⟩ => rfl
      | ⟨1, _⟩ => rfl
      | ⟨2, _⟩ => exact Nat.lt_one_iff.mp j.isLt
    show IntOp.andi (IntOp.cmpi .sge (wrapped n idx (hr.lift (ix2 l r) j)) 0#32) (IntOp.cmpi .sle (wrapped n idx (hr.lift (ix2 l r) j)) (BitVec.ofNat 32 (N - 1))) = 1#1
    rw [hl, hw, ge, le]
    rfl
  have e : takeAlong N wf n (BitVec.ofNat 32 (N - 1)) x idx junk (ix2 l r) = Host.gather (alongDims 16 N 4 wf) x (wrapped n idx) (ix2 l r) := by
    show Scalar.select (Host.reduce IntOp.andi _ _ _ _ (ix2 l r)) _ _ = _
    rw [hm]
    rfl
  rw [e, gather_along hN]
  refine congrArg (fun j => x (ix2 l j)) (Fin.ext ?_)
  show min (wrapped n idx (ix3 l r 0)).toInt.toNat (N - 1) = k.val
  have := k.isLt
  rw [hw, toInt_word hk]
  omega

end Cert.Vocab

end
-- ==== Proof.Refer.lean ====
/-
  What the reference computes at exact arithmetic, entry by entry: the logits and the totals of all continuations.
-/
module

public import proofs.«01_k».proof.Proof.Score
public import proofs.«01_k».proof.Proof.Index
public import proofs.«01_k».proof.Proof.Gen.ReferenceIdeal.Run
public import Idealize.ShloMosaic.Lib.Pointwise

@[expose] public section

set_option maxRecDepth 16384

noncomputable section

namespace Cert.ReferenceIdeal.Vocab

open Idealize.ShloMosaic Idealize.ShloMosaic.TcCoe Cert.ReferenceIdeal Cert.ReferenceIdeal.Gen Cert.Vocab

/-- The rays' last tokens. -/
def lastTok (a1 : IVec S64x7 32) : IVec S64 32 :=
  shapeCast _ (extractStridedSlice S64x1 ![0, 6] a1 slices_S64x7_S64x1_0_6) shapeCasts_S64x1_S64

/-- The table's rows they name. -/
def rowsTaken (t : IVec S64 32) : IVec S64x1 32 :=
  broadcastInDim S64x1 ![0] bcast_S64_S64x1_0 (select (cmpi .slt t (broadcastInDim S64 ![] bcast_S_S64 (constantI S_ 32 0#32))) (addi t (broadcastInDim S64 ![] bcast_S_S64 (constantI S_ 32 100000#32))) t)

/-- The embeddings of the tokens. -/
def lookup (t : IVec S64 32) (a6 : FVec Ideal S100000x512 .f32) : FVec Ideal S64x512 .f32 :=
  select (broadcastInDim S64x512 ![0] bcast_S64_S64x512_0 (Host.reduce IntOp.andi (andi (cmpi .sge (rowsTaken t) (broadcastInDim S64x1 ![] bcast_S_S64x1 (constantI S_ 32 0#32))) (cmpi .sle (rowsTaken t) (broadcastInDim S64x1 ![0, 1] bcast_S1x1_S64x1_0_1 (broadcastInDim S1x1 ![1] bcast_S1_S1x1_1 (constantI S1 32 99999#32))))) (constantI S_ 1 1#1) reducesTo_S64x1_S64_d1 h_S_)) (Host.gather gather_S100000x512_S64x1_S64x512_1_0_n_n_0_1_1512 a6 (rowsTaken t)) (broadcastInDim S64x512 ![] bcast_S_S64x512 (constant S_ .f32 0x7FC00000#32))

/-- A position, counted from the end where it is negative. -/
def wrapPos (i n : IVec S_ 32) : IVec S_ 32 := select (cmpi .slt i (constantI S_ 32 0#32)) (addi i n) i

/-- The position's embedding, in each row. -/
def posRow (i : IVec S_ 32) (a7 : FVec Ideal S64x512 .f32) : FVec Ideal S64x512 .f32 :=
  broadcastInDim S64x512 ![0, 1] bcast_S1x512_S64x512_0_1 (broadcastInDim S1x512 ![1] bcast_S512_S1x512_1 (shapeCast _ (Host.dynamicSlice S1x512 a7 (fun k => ((![wrapPos i (constantI S_ 32 64#32), wrapPos (constantI S_ 32 0#32) (constantI S_ 32 512#32)] : Fin 2 → IVec S_ 32) k (Shape.Idx.first h_S_)).toInt) sliceFits_S64x512_S1x512) shapeCasts_S1x512_S512))

/-- The encoder's mean state, multiplied. -/
def ctxDot (a4 : FVec Ideal S16x512x512 .f32) (a5 : FVec Ideal S16x512 .f32) (a9 : FVec Ideal S512x512 .f32) : FVec Ideal S64x512 .f32 :=
  Host.dotGeneral dot_S64x512_S512x512_S64x512_1_0_0_1_n_n none (shapeCast _ (broadcastInDim S16x4x512 ![0, 2] bcast_S16x512_S16x4x512_0_2 (Host.divf (Host.reduceAdd (mulf a4 (broadcastInDim S16x512x512 ![0, 1, 2] bcast_S16x512x1_S16x512x512_0_1_2 (broadcastInDim S16x512x1 ![0, 1] bcast_S16x512_S16x512x1_0_1 a5))) (constant S_ .f32 0x00000000#32) reducesTo_S16x512x512_S16x512_d1 h_S_) (broadcastInDim S16x512 ![0, 1] bcast_S16x1_S16x512_0_1 (maximumf (broadcastInDim S16x1 ![0] bcast_S16_S16x1_0 (Host.reduceAdd a5 (constant S_ .f32 0x00000000#32) reducesTo_S16x512_S16_d1 h_S_)) (broadcastInDim S16x1 ![] bcast_S_S16x1 (constant S_ .f32 0x3F800000#32)))))) shapeCasts_S16x4x512_S64x512) a9

/-- The hidden states, before the hyperbolic tangent. -/
def preact (i : IVec S_ 32) (a1 : IVec S64x7 32) (a4 : FVec Ideal S16x512x512 .f32) (a5 : FVec Ideal S16x512 .f32) (a6 : FVec Ideal S100000x512 .f32) (a7 : FVec Ideal S64x512 .f32) (a8 a9 : FVec Ideal S512x512 .f32) : FVec Ideal S64x512 .f32 :=
  addf (Host.dotGeneral dot_S64x512_S512x512_S64x512_1_0_0_1_n_n none (addf (lookup (lastTok a1) a6) (posRow i a7)) a8) (ctxDot a4 a5 a9)

/-- The hidden states. -/
def hidden (i : IVec S_ 32) (a1 : IVec S64x7 32) (a4 : FVec Ideal S16x512x512 .f32) (a5 : FVec Ideal S16x512 .f32) (a6 : FVec Ideal S100000x512 .f32) (a7 : FVec Ideal S64x512 .f32) (a8 a9 : FVec Ideal S512x512 .f32) : FVec Ideal S64x512 .f32 :=
  Host.tanh (preact i a1 a4 a5 a6 a7 a8 a9)

/-- The logit of word `v` for row `l`, of the hidden states and the table. -/
def logit (H : FVec Ideal S64x512 .f32) (E : FVec Ideal S100000x512 .f32) (l : Fin 64) (v : Fin 100000) : EReal := ∑ k : Fin 512, H (ix2 l k) * E (ix2 v k)

/-- The reference's matrix of logits. -/
def refLogits (H : FVec Ideal S64x512 .f32) (E : FVec Ideal S100000x512 .f32) : FVec Ideal S64x100000 .f32 :=
  Host.dotGeneral dot_S64x512_S512x100000_S64x100000_1_0_0_1_n_n none H (transpose S512x100000 [1, 0] E transposes_S100000x512_S512x100000_1_0)

/-- … its entries. -/
theorem refLogits_apply (H : FVec Ideal S64x512 .f32) (E : FVec Ideal S100000x512 .f32) (l : Fin 64) (v : Fin 100000) : refLogits H E (ix2 l v) = logit H E l v := by
  pointwise [refLogits, logit]

/-- The pattern of −∞ is −∞. -/
theorem negInf : Ideal.ofBits .f32 4286578688#32 = ⊥ := by
  simp [Ideal.ofBits, Ideal.ieee]

end Cert.ReferenceIdeal.Vocab

end
-- ==== Proof.Hidden.lean ====
/-
  The hidden states the launch is given are the reference's, transposed.
-/
module

public import proofs.«01_k».proof.Proof.Launch
public import proofs.«01_k».proof.Proof.Refer

@[expose] public section

set_option maxRecDepth 16384

noncomputable section

namespace Cert.KernelIdeal.Vocab

open Idealize.ShloMosaic Idealize.ShloMosaic.TcCoe Idealize.ShloMosaic.Tactic
open Cert.KernelIdeal.Gen
open Cert.ReferenceIdeal.Vocab (lastTok lookup posRow ctxDot preact hidden)

/-- What the launch is given, from the tokens' embeddings and the encoder's part. -/
def intoLaunch (i : IVec S_ 32) (e a7 : FVec Ideal S64x512 .f32) (a8 : FVec Ideal S512x512 .f32) (x : FVec Ideal S64x512 .f32) : FVec Ideal S512x64 .f32 :=
  transpose S512x64 [1, 0] (Host.tanh (addf (Host.dotGeneral dot_S64x512_S512x512_S64x512_1_0_0_1_n_n none (addf e (posRow i a7)) a8) x)) transposes_S64x512_S512x64_1_0

section
variable (W : Valuation τ sig (Elt Ideal))

/-- The lines before the table is read: the rays' last tokens and the encoder's part. -/
theorem before_tok : StableHlo.after hostOps0 W (Proc.devRef .tc main_v14) = lastTok (W (Proc.devRef .tc main_arg1)) := by
  after_results
  rfl
theorem before_ctx : StableHlo.after hostOps0 W (Proc.devRef .tc main_v12)
    = ctxDot (W (Proc.devRef .tc main_arg4)) (W (Proc.devRef .tc main_arg5)) (W (Proc.devRef .tc main_arg9)) := by
  after_results
  rfl
/-- The lines that read the table. -/
theorem before_lookup : StableHlo.after hostOps0_1 W (Proc.devRef .tc main_v15) = lookup (W (Proc.devRef .tc main_v14)) (W (Proc.devRef .tc main_arg6)) := by
  after_results
  rfl
theorem before_ctx_kept : StableHlo.after hostOps0_1 W (Proc.devRef .tc main_v12) = W (Proc.devRef .tc main_v12) := by
  after_results
/-- The lines up to the launch. -/
theorem before_hidden : StableHlo.after hostOps0_2 W (Proc.devRef .tc main_v30)
    = intoLaunch (W (Proc.devRef .tc main_arg0)) (W (Proc.devRef .tc main_v15)) (W (Proc.devRef .tc main_arg7)) (W (Proc.devRef .tc main_arg8)) (W (Proc.devRef .tc main_v12)) := by
  simp only [StableHlo.after_cons, StableHlo.after_nil]
  simp (disch := decide) only [StableHlo.unaryIndexed_result_read, StableHlo.indexContents_cons, StableHlo.indexContents_empty, StableHlo.nullary_result', StableHlo.unary_result', StableHlo.binary_result',
    StableHlo.ternary_result', StableHlo.reshape_result', StableHlo.nullary_result_ne', StableHlo.unary_result_ne', StableHlo.binary_result_ne', StableHlo.ternary_result_ne', StableHlo.reshape_result_ne',
    StableHlo.unaryIndexed_result_ne']
  rfl
/-- The arrays these lines do not write. -/
theorem before_pos : StableHlo.after hostOps0_1 (StableHlo.after hostOps0 W) (Proc.devRef .tc main_arg0) = W (Proc.devRef .tc main_arg0) := by
  after_results
theorem before_6 : StableHlo.after hostOps0 W (Proc.devRef .tc main_arg6) = W (Proc.devRef .tc main_arg6) := by
  after_results
theorem before_7 : StableHlo.after hostOps0_1 (StableHlo.after hostOps0 W) (Proc.devRef .tc main_arg7) = W (Proc.devRef .tc main_arg7) := by
  after_results
theorem before_8 : StableHlo.after hostOps0_1 (StableHlo.after hostOps0 W) (Proc.devRef .tc main_arg8) = W (Proc.devRef .tc main_arg8) := by
  after_results
end

variable (m : (ℓ : Loc nD τ sig) → Buf (Elt Ideal) ℓ) (c : Dev nD)

/-- The hidden states and the table, of a memory. -/
def argH : FVec Ideal S64x512 .f32 :=
  hidden (m ((c : Thread nD τ).loc main_arg0)) (m ((c : Thread nD τ).loc main_arg1)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
abbrev argE : FVec Ideal S100000x512 .f32 := m ((c : Thread nD τ).loc main_arg6)

/-- THE HIDDEN STATES at the launch. -/
theorem V_hidden : V m c main_v30 = (transpose S512x64 [1, 0] (argH m c) transposes_S64x512_S512x64_1_0 : FVec Ideal S512x64 .f32) := by
  show StableHlo.after (List.flatten [hostOps0, hostOps0_1, hostOps0_2]) _ (Proc.devRef .tc main_v30) = _
  rw [List.flatten_cons, List.flatten_cons, List.flatten_cons, List.flatten_nil, List.append_nil, StableHlo.after_append, StableHlo.after_append, before_hidden, before_lookup,
    before_ctx_kept, before_ctx, before_tok, before_pos, before_6, before_7, before_8]
  rfl

/-- … their entries. -/
theorem X1_apply (k : Fin 512) (l : Fin 64) : X1 m c (ix2 k l) = argH m c (ix2 l k) := by
  rw [X1_eq, V_hidden]
  generalize argH m c = h
  pointwise

end Cert.KernelIdeal.Vocab

end
-- ==== Proof.Chunk.lean ====
/-
  One chunk of the vocabulary at exact arithmetic: its logits are the inner products, and of each lane's 5000 logits the
  four rounds store the four greatest, greater first and equal ones by position, with their vocabulary positions.
-/
module

public import proofs.«01_k».proof.Proof.Vals
public import proofs.«01_k».proof.Proof.Order
public import Idealize.ShloMosaic.Lib.Pointwise
public import Idealize.ShloMosaic.PureOps.Ideal.Laws

@[expose] public section

set_option maxRecDepth 16384

noncomputable section

namespace Cert.KernelIdeal.Vocab

open Idealize.ShloMosaic Idealize.ShloMosaic.TcCoe Idealize.ShloMosaic.VecWindow
open Cert.KernelIdeal.Gen Cert.Vocab

/-- The value the rounds overwrite a picked entry by. -/
abbrev NEG : EReal := Ideal.ofBits .f32 0xCE6E6B28#32

/-- The pattern a maximum starts from denotes minus infinity. -/
theorem ofBits_negInf : Ideal.ofBits .f32 0xFF800000#32 = ⊥ := by simp [Ideal.ofBits, Ideal.ieee]

/-- A select on an equality of words. -/
theorem select_eq {α : Type} (u w : BitVec 32) (x y : α) : Scalar.select (IntOp.cmpi .eq u w) x y = if u = w then x else y := by
  by_cases h : u = w
  · simp [Scalar.select, IntOp.cmpi, h]
  · have : (u == w) = false := by simpa using h
    simp [Scalar.select, IntOp.cmpi, h, this]

/-- A select on a conjunction of bits. -/
theorem select_and {α : Type} (c : BitVec 1) (u w : BitVec 32) (x y : α) :
    Scalar.select (IntOp.andi c (IntOp.cmpi .eq u w)) x y = if c = 1#1 ∧ u = w then x else y := by
  by_cases h : u = w
  · rcases BitVec.eq_zero_or_eq_one c with rfl | rfl <;> simp [Scalar.select, IntOp.cmpi, IntOp.andi, h]
  · have : (u == w) = false := by simpa using h
    rcases BitVec.eq_zero_or_eq_one c with rfl | rfl <;> simp [Scalar.select, IntOp.cmpi, IntOp.andi, h, this]

section rounds
variable (v1 : IVec S5000x128 32) (v15 : FVec Ideal S5000x128 .f32) (v36 : IVec S5000x128 1) (a : Fin 5000) (b : Fin 128)

/-- The least of the first round's candidates. -/
theorem pay34_apply : k0_pay34 v1 v36 5000#32 (ix1 b) = Finset.univ.fold IntOp.minsi 2147483647#32 fun x : Fin 5000 =>
    Scalar.select (v36 (ix2 x b)) (v1 (ix2 x b)) 5000#32 := by
  pointwise [k0_pay34]

/-- The logits with the first pick overwritten. -/
theorem pay36_apply : k0_pay36 (F := Ideal) v1 v15 v36 5000#32 (ix2 a b) = if v1 (ix2 a b) = k0_pay34 v1 v36 5000#32 (ix1 b) then NEG else v15 (ix2 a b) := by
  pointwise [k0_pay36]
  exact select_eq _ _ _ _

/-- Their maximum. -/
theorem pay37_apply : k0_pay37 (F := Ideal) v1 v15 v36 5000#32 (ix1 b) = Finset.univ.fold max ⊥ fun x : Fin 5000 => k0_pay36 v1 v15 v36 5000#32 (ix2 x b) := by
  pointwise [k0_pay37, ofBits_negInf]

/-- The second pick's position. -/
theorem pay38_apply : k0_pay38 (F := Ideal) v1 v15 v36 5000#32 (ix1 b) = Finset.univ.fold IntOp.minsi 2147483647#32 fun x : Fin 5000 =>
    if k0_pay36 v1 v15 v36 5000#32 (ix2 x b) = k0_pay37 v1 v15 v36 5000#32 (ix1 b) then v1 (ix2 x b) else BitVec.ofNat 32 5000 := by
  pointwise [k0_pay38]

/-- The logits with two picks overwritten. -/
theorem pay40_apply : k0_pay40 (F := Ideal) v1 v15 v36 5000#32 (ix2 a b)
    = if v1 (ix2 a b) = k0_pay38 v1 v15 v36 5000#32 (ix1 b) then NEG else k0_pay36 v1 v15 v36 5000#32 (ix2 a b) := by
  pointwise [k0_pay40]
  exact select_eq _ _ _ _

/-- Their maximum. -/
theorem pay41_apply : k0_pay41 (F := Ideal) v1 v15 v36 5000#32 (ix1 b) = Finset.univ.fold max ⊥ fun x : Fin 5000 => k0_pay40 v1 v15 v36 5000#32 (ix2 x b) := by
  pointwise [k0_pay41, ofBits_negInf]

/-- The third pick's position. -/
theorem pay42_apply : k0_pay42 (F := Ideal) v1 v15 v36 5000#32 (ix1 b) = Finset.univ.fold IntOp.minsi 2147483647#32 fun x : Fin 5000 =>
    if k0_pay40 v1 v15 v36 5000#32 (ix2 x b) = k0_pay41 v1 v15 v36 5000#32 (ix1 b) then v1 (ix2 x b) else BitVec.ofNat 32 5000 := by
  pointwise [k0_pay42]

/-- The logits with three picks overwritten. -/
theorem pay44_apply : k0_pay44 (F := Ideal) v1 v15 v36 5000#32 (ix2 a b)
    = if v1 (ix2 a b) = k0_pay42 v1 v15 v36 5000#32 (ix1 b) then NEG else k0_pay40 v1 v15 v36 5000#32 (ix2 a b) := by
  pointwise [k0_pay44]
  exact select_eq _ _ _ _

/-- Their maximum. -/
theorem pay45_apply : k0_pay45 (F := Ideal) v1 v15 v36 5000#32 (ix1 b) = Finset.univ.fold max ⊥ fun x : Fin 5000 => k0_pay44 v1 v15 v36 5000#32 (ix2 x b) := by
  pointwise [k0_pay45, ofBits_negInf]

/-- … as a row. -/
theorem pay46_apply : k0_pay46 (F := Ideal) v1 v15 v36 5000#32 (ix2 0 b) = k0_pay45 v1 v15 v36 5000#32 (ix1 b) := by
  pointwise [k0_pay46]

end rounds

section block
variable (n : BitVec 32) (x0 : Vec Ideal S5000x128 .i32) (x1 : Vec Ideal S512x64 .f32) (x2 : Vec Ideal S10000x512 .f32) (a : Fin 5000) (b : Fin 128)

/-- The row of positions is as stored. -/
theorem pay27_apply : k0_pay27 (F := Ideal) x0 (ix2 a b) = x0 (ix2 a b) := by
  pointwise [k0_pay27]

/-- The maximum of a lane's logits. -/
theorem pay30_apply : k0_pay30 (F := Ideal) (lo x2) x1 (hi x2) x1 (ix1 b) = Finset.univ.fold max ⊥ fun x : Fin 5000 => lg x1 x2 (ix2 x b) := by
  pointwise [k0_pay30, ofBits_negInf, lg]

/-- The candidates for the first pick's position. -/
theorem firstAt_apply : Scalar.select (firstAt (F := Ideal) x1 x2 (ix2 a b)) (x0 (ix2 a b)) 5000#32
    = if lg x1 x2 (ix2 a b) = k0_pay30 (lo x2) x1 (hi x2) x1 (ix1 b) then x0 (ix2 a b) else BitVec.ofNat 32 5000 := by
  pointwise [firstAt, k0_pay33, lg]

/-- The stored row of maxima. -/
theorem rowMax_apply : rowMax (F := Ideal) x1 x2 (ix2 0 b) = Finset.univ.fold max ⊥ fun x : Fin 5000 => lg x1 x2 (ix2 x b) := by
  rw [← pay30_apply]
  pointwise [rowMax, k0_pay31]

/-- The stored row of sums of exponentials. -/
theorem rowSum_apply : rowSum (F := Ideal) x1 x2 (ix2 0 b) = ∑ x : Fin 5000, Ideal.exp (lg x1 x2 (ix2 x b) - rowMax x1 x2 (ix2 0 b)) := by
  rw [rowMax_apply, ← pay30_apply]
  pointwise [rowSum, k0_pay32, lg]

/-- The second half of the lanes stands for the second half of the chunk. -/
def offs (b : Fin 128) : BitVec 32 := if 64 ≤ b.val then BitVec.ofNat 32 5000 else BitVec.ofNat 32 0

/-- The lanes' offsets into the chunk, as computed. -/
theorem pay28_apply : k0_pay28 (ix1 b) = offs b := by
  have h : k0_pay28 (ix1 b) = Scalar.select (IntOp.cmpi CmpIPredicate.sge (BitVec.ofNat 32 b.val) 64#32) 5000#32 0#32 := by
    pointwise [k0_pay28]
  rw [h]
  revert b
  decide

/-- The four stored values, row by row. -/
theorem blkVal_apply (r : Fin 4) : blkVal (F := Ideal) x0 x1 x2 (ix2 r b)
    = (![k0_pay30 (F := Ideal) (lo x2) x1 (hi x2) x1 (ix1 b), k0_pay37 (k0_pay27 x0) (lg x1 x2) (firstAt x1 x2) 5000#32 (ix1 b),
        k0_pay41 (k0_pay27 x0) (lg x1 x2) (firstAt x1 x2) 5000#32 (ix1 b), k0_pay45 (k0_pay27 x0) (lg x1 x2) (firstAt x1 x2) 5000#32 (ix1 b)] : Fin 4 → EReal) r := by
  unfold blkVal
  generalize k0_pay30 (F := Ideal) (lo x2) x1 (hi x2) x1 = A
  generalize k0_pay37 (F := Ideal) (k0_pay27 x0) (lg x1 x2) (firstAt x1 x2) 5000#32 = B
  generalize k0_pay41 (F := Ideal) (k0_pay27 x0) (lg x1 x2) (firstAt x1 x2) 5000#32 = C
  generalize k0_pay45 (F := Ideal) (k0_pay27 x0) (lg x1 x2) (firstAt x1 x2) 5000#32 = D
  pointwise [k0_pay1]
  match r with
  | 0 => rfl
  | 1 => rfl
  | 2 => rfl
  | 3 => rfl

/-- A stored position, from the position within the half chunk. -/
def vpos (n : BitVec 32) (b : Fin 128) (p : BitVec 32) : BitVec 32 := (n * BitVec.ofNat 32 10000 + p) + offs b

/-- Four stored positions, one by one. -/
theorem vpos_cons (n : BitVec 32) (b : Fin 128) (p0 p1 p2 p3 : BitVec 32) (r : Fin 4) :
    vpos n b ((![p0, p1, p2, p3] : Fin 4 → BitVec 32) r) = (![vpos n b p0, vpos n b p1, vpos n b p2, vpos n b p3] : Fin 4 → BitVec 32) r := by
  match r with
  | 0 => rfl
  | 1 => rfl
  | 2 => rfl
  | 3 => rfl

/-- The last pick's position within the half chunk. -/
def lastAt : BitVec 32 := Finset.univ.fold IntOp.minsi 2147483647#32 fun x : Fin 5000 =>
    if k0_pay44 (F := Ideal) (k0_pay27 x0) (lg x1 x2) (firstAt x1 x2) 5000#32 (ix2 x b) = k0_pay45 (k0_pay27 x0) (lg x1 x2) (firstAt x1 x2) 5000#32 (ix1 b)
      then k0_pay27 x0 (ix2 x b) else BitVec.ofNat 32 5000

/-- The four stored positions, row by row. -/
theorem blkIdx_apply (r : Fin 4) : blkIdx (F := Ideal) n x0 x1 x2 (ix2 r b)
    = vpos n b ((![k0_pay34 (k0_pay27 x0) (firstAt x1 x2) 5000#32 (ix1 b), k0_pay38 (k0_pay27 x0) (lg x1 x2) (firstAt x1 x2) 5000#32 (ix1 b),
        k0_pay42 (k0_pay27 x0) (lg x1 x2) (firstAt x1 x2) 5000#32 (ix1 b), lastAt x0 x1 x2 b] : Fin 4 → BitVec 32) r) := by
  have e28 := pay28_apply b
  have e35 : k0_pay35 n (k0_pay27 x0) k0_pay28 (firstAt x1 x2) 5000#32 (ix1 b) = vpos n b (k0_pay34 (k0_pay27 x0) (firstAt x1 x2) 5000#32 (ix1 b)) := by
    rw [vpos, ← e28]
    generalize k0_pay28 = O
    generalize firstAt x1 x2 = W
    pointwise [k0_pay35]
    rfl
  have e39 : k0_pay39 n (k0_pay27 x0) k0_pay28 (lg x1 x2) (firstAt x1 x2) 5000#32 (ix1 b)
      = vpos n b (k0_pay38 (k0_pay27 x0) (lg x1 x2) (firstAt x1 x2) 5000#32 (ix1 b)) := by
    rw [vpos, ← e28]
    generalize k0_pay28 = O
    generalize firstAt x1 x2 = W
    generalize lg x1 x2 = L
    generalize k0_pay27 x0 = P
    pointwise [k0_pay39]
    rfl
  have e43 : k0_pay43 n (k0_pay27 x0) k0_pay28 (lg x1 x2) (firstAt x1 x2) 5000#32 (ix1 b)
      = vpos n b (k0_pay42 (k0_pay27 x0) (lg x1 x2) (firstAt x1 x2) 5000#32 (ix1 b)) := by
    rw [vpos, ← e28]
    generalize k0_pay28 = O
    generalize firstAt x1 x2 = W
    generalize lg x1 x2 = L
    generalize k0_pay27 x0 = P
    pointwise [k0_pay43]
    rfl
  have e46 : lastAt x0 x1 x2 b = Finset.univ.fold IntOp.minsi 2147483647#32 fun x : Fin 5000 =>
      if k0_pay44 (F := Ideal) (k0_pay27 x0) (lg x1 x2) (firstAt x1 x2) 5000#32 (ix2 x b)
        = k0_pay46 (F := Ideal) (k0_pay27 x0) (lg x1 x2) (firstAt x1 x2) 5000#32 (ix2 0 b) then k0_pay27 x0 (ix2 x b) else BitVec.ofNat 32 5000 := by
    rw [pay46_apply, lastAt]
  rw [vpos_cons, ← e35, ← e39, ← e43, e46, vpos, ← e28]
  unfold blkIdx
  generalize k0_pay35 n (k0_pay27 x0) k0_pay28 (firstAt x1 x2) 5000#32 = A
  generalize k0_pay39 n (k0_pay27 x0) k0_pay28 (lg x1 x2) (firstAt x1 x2) 5000#32 = B
  generalize k0_pay43 n (k0_pay27 x0) k0_pay28 (lg x1 x2) (firstAt x1 x2) 5000#32 = C
  generalize k0_pay46 (F := Ideal) (k0_pay27 x0) (lg x1 x2) (firstAt x1 x2) 5000#32 = H
  generalize k0_pay44 (F := Ideal) (k0_pay27 x0) (lg x1 x2) (firstAt x1 x2) 5000#32 = L
  generalize k0_pay28 = O
  generalize k0_pay27 x0 = P
  pointwise [k0_pay2]
  match r with
  | 0 => rfl
  | 1 => rfl
  | 2 => rfl
  | 3 => rfl

/-- THE FOUR ROUNDS: with the row of positions in place and every logit above the overwriting value, the stored values
    are the lane's four greatest logits and the stored positions are theirs. -/
theorem chunk_four (h0 : ∀ x, x0 (ix2 x b) = BitVec.ofNat 32 x.val) (hneg : ∀ x : Fin 5000, NEG < lg x1 x2 (ix2 x b)) :
    ∃ p : Fin 4 → Fin 5000, Four (fun x : Fin 5000 => lg x1 x2 (ix2 x b)) Fin.val p
      ∧ (∀ r, blkVal (F := Ideal) x0 x1 x2 (ix2 r b) = lg x1 x2 (ix2 (p r) b))
      ∧ ∀ r, blkIdx (F := Ideal) n x0 x1 x2 (ix2 r b) = vpos n b (BitVec.ofNat 32 (p r).val) := by
  have next : ∀ {u w : BitVec 32} {y y' M : EReal}, y' = (if u = w then NEG else y) → (u = w → y = M → y' = NEG) ∧ (u ≠ w → y' = y) :=
    fun h => ⟨fun e _ => by rw [h, if_pos e], fun e => by rw [h, if_neg e]⟩
  have e34 : k0_pay34 (k0_pay27 x0) (firstAt (F := Ideal) x1 x2) 5000#32 (ix1 b) = Finset.univ.fold IntOp.minsi 2147483647#32 fun x : Fin 5000 =>
      if lg x1 x2 (ix2 x b) = k0_pay30 (F := Ideal) (lo x2) x1 (hi x2) x1 (ix1 b) then k0_pay27 (F := Ideal) x0 (ix2 x b) else BitVec.ofNat 32 5000 := by
    rw [pay34_apply]
    refine Finset.fold_congr fun x _ => ?_
    rw [pay27_apply]
    exact firstAt_apply x0 x1 x2 x b
  have hc : 4 ≤ Fintype.card (Fin 5000) := by rw [Fintype.card_fin]; norm_num
  obtain ⟨p, hp, hv, hi⟩ := rounds (neg := NEG) (y0 := fun x : Fin 5000 => lg x1 x2 (ix2 x b)) (key := Fin.val) hneg hc
    Fin.val_injective (fill := 5000) (fun i => i.isLt) (by norm_num) (w := fun x : Fin 5000 => k0_pay27 (F := Ideal) x0 (ix2 x b))
    (fun x => (pay27_apply x0 x b).trans (h0 x))
    (pay30_apply x1 x2 b) e34
    ⟨fun x => (next (pay36_apply _ _ _ x b)).1, fun x => (next (M := 0) (pay36_apply _ _ _ x b)).2⟩
    (pay37_apply _ _ _ b) (pay38_apply _ _ _ b) ⟨fun x => (next (pay40_apply _ _ _ x b)).1, fun x => (next (M := 0) (pay40_apply _ _ _ x b)).2⟩
    (pay41_apply _ _ _ b) (pay42_apply _ _ _ b) ⟨fun x => (next (pay44_apply _ _ _ x b)).1, fun x => (next (M := 0) (pay44_apply _ _ _ x b)).2⟩
    (pay45_apply _ _ _ b) (a3 := lastAt x0 x1 x2 b) rfl
  exact ⟨p, hp, fun r => (blkVal_apply x0 x1 x2 b r).trans (hv r), fun r => (blkIdx_apply n x0 x1 x2 b r).trans (congrArg (vpos n b) (hi r))⟩

end block

end Cert.KernelIdeal.Vocab

end
-- ==== Proof.Merge.lean ====
/-
  The last point's merge at exact arithmetic: of each row's 80 candidates the four rounds store the four greatest,
  greater first and equal ones by vocabulary position, with their positions.
-/
module

public import proofs.«01_k».proof.Proof.Chunk

@[expose] public section

set_option maxRecDepth 16384

noncomputable section

namespace Cert.KernelIdeal.Vocab

open Idealize.ShloMosaic Idealize.ShloMosaic.TcCoe Idealize.ShloMosaic.VecWindow
open Cert.KernelIdeal.Gen Cert.Vocab

/-- A comparison's bit is set exactly where the values are equal. -/
theorem cmp_eq_one (x y : EReal) : Ideal.cmp .oeq x y = 1#1 ↔ x = y := by
  by_cases h : x = y <;> simp [Ideal.cmp, h]

/-- A select whose bit says `P` is the choice by `P`. -/
theorem select_iff {α : Type} {b : BitVec 1} {P : Prop} [Decidable P] (h : b = 1#1 ↔ P) (x y : α) : Scalar.select b x y = if P then x else y := by
  by_cases hp : P
  · rw [if_pos hp]; exact if_pos (h.mpr hp)
  · rw [if_neg hp]; exact if_neg fun e => hp (h.mp e)

section rounds
variable (sv : Vec Ideal S40x128 .f32) (si : Vec Ideal S40x128 .i32) (c : Fin 80) (l : Fin 64)

/-- The candidates' values: first the lanes of the first halves, then those of the second. -/
theorem pay9_apply : k0_pay9 sv (ix2 c l) = if h : c.val < 40 then sv (ix2 ⟨c.val, h⟩ ⟨l.val, by omega⟩)
    else sv (ix2 ⟨c.val - 40, by omega⟩ ⟨64 + l.val, by omega⟩) := by
  pointwise [k0_pay9]

/-- The candidates' positions, in the same order. -/
theorem pay10_apply : k0_pay10 (F := Ideal) si (ix2 c l) = if h : c.val < 40 then si (ix2 ⟨c.val, h⟩ ⟨l.val, by omega⟩)
    else si (ix2 ⟨c.val - 40, by omega⟩ ⟨64 + l.val, by omega⟩) := by
  pointwise [k0_pay10]

/-- The candidates' maximum. -/
theorem pay11_apply : k0_pay11 sv (ix1 l) = Finset.univ.fold max ⊥ fun x : Fin 80 => k0_pay9 sv (ix2 x l) := by
  pointwise [k0_pay11, ofBits_negInf]

/-- Where a candidate is the maximum. -/
theorem pay12_apply : k0_pay12 sv (ix2 c l) = 1#1 ↔ k0_pay9 sv (ix2 c l) = k0_pay11 sv (ix1 l) := by
  rw [← cmp_eq_one]
  have : k0_pay12 sv (ix2 c l) = Ideal.cmp .oeq (k0_pay9 sv (ix2 c l)) (k0_pay11 sv (ix1 l)) := by
    pointwise [k0_pay12]
    try rfl
  rw [this]

/-- The first pick's position. -/
theorem pay13_apply : k0_pay13 sv si (ix1 l) = Finset.univ.fold IntOp.minsi 2147483647#32 fun x : Fin 80 =>
    if k0_pay9 sv (ix2 x l) = k0_pay11 sv (ix1 l) then k0_pay10 (F := Ideal) si (ix2 x l) else BitVec.ofNat 32 100000 := by
  have : k0_pay13 sv si (ix1 l) = Finset.univ.fold IntOp.minsi 2147483647#32 fun x : Fin 80 =>
      Scalar.select (k0_pay12 sv (ix2 x l)) (k0_pay10 (F := Ideal) si (ix2 x l)) (BitVec.ofNat 32 100000) := by
    pointwise [k0_pay13]
  exact this.trans (congrArg (fun f => Finset.fold IntOp.minsi 2147483647#32 f Finset.univ) (funext fun x => select_iff (pay12_apply sv x l) _ _))

end rounds

section later
variable (v143 : FVec Ideal S80x64 .f32) (v146 : IVec S80x64 32) (v150 : IVec S80x64 1) (v153 : IVec S64 32) (c : Fin 80) (l : Fin 64)

/-- The candidates with the first pick overwritten. -/
theorem pay16_apply : k0_pay16 v143 v146 v150 v153 (ix2 c l)
    = if v150 (ix2 c l) = 1#1 ∧ v146 (ix2 c l) = v153 (ix1 l) then NEG else v143 (ix2 c l) := by
  pointwise [k0_pay16]
  exact select_and _ _ _ _ _

/-- Their maximum. -/
theorem pay17_apply : k0_pay17 v143 v146 v150 v153 (ix1 l) = Finset.univ.fold max ⊥ fun x : Fin 80 => k0_pay16 v143 v146 v150 v153 (ix2 x l) := by
  pointwise [k0_pay17, ofBits_negInf]

/-- Where one of them is the maximum. -/
theorem pay18_apply : k0_pay18 v143 v146 v150 v153 (ix2 c l) = 1#1
    ↔ k0_pay16 v143 v146 v150 v153 (ix2 c l) = k0_pay17 v143 v146 v150 v153 (ix1 l) := by
  rw [← cmp_eq_one]
  have : k0_pay18 v143 v146 v150 v153 (ix2 c l) = Ideal.cmp .oeq (k0_pay16 v143 v146 v150 v153 (ix2 c l)) (k0_pay17 v143 v146 v150 v153 (ix1 l)) := by
    pointwise [k0_pay18]
    try rfl
  rw [this]

/-- The second pick's position. -/
theorem pay19_apply : k0_pay19 v143 v146 v150 v153 (ix1 l) = Finset.univ.fold IntOp.minsi 2147483647#32 fun x : Fin 80 =>
    if k0_pay16 v143 v146 v150 v153 (ix2 x l) = k0_pay17 v143 v146 v150 v153 (ix1 l) then v146 (ix2 x l) else BitVec.ofNat 32 100000 := by
  have : k0_pay19 v143 v146 v150 v153 (ix1 l) = Finset.univ.fold IntOp.minsi 2147483647#32 fun x : Fin 80 =>
      Scalar.select (k0_pay18 v143 v146 v150 v153 (ix2 x l)) (v146 (ix2 x l)) (BitVec.ofNat 32 100000) := by
    pointwise [k0_pay19]
  exact this.trans (congrArg (fun f => Finset.fold IntOp.minsi 2147483647#32 f Finset.univ) (funext fun x => select_iff (pay18_apply v143 v146 v150 v153 x l) _ _))

/-- The candidates with two picks overwritten. -/
theorem pay22_apply : k0_pay22 v143 v146 v150 v153 (ix2 c l)
    = if k0_pay18 v143 v146 v150 v153 (ix2 c l) = 1#1 ∧ v146 (ix2 c l) = k0_pay19 v143 v146 v150 v153 (ix1 l) then NEG
      else k0_pay16 v143 v146 v150 v153 (ix2 c l) := by
  pointwise [k0_pay22]
  exact select_and _ _ _ _ _

/-- Their maximum. -/
theorem pay23_apply : k0_pay23 v143 v146 v150 v153 (ix1 l) = Finset.univ.fold max ⊥ fun x : Fin 80 => k0_pay22 v143 v146 v150 v153 (ix2 x l) := by
  pointwise [k0_pay23, ofBits_negInf]

/-- Where one of them is the maximum. -/
theorem pay24_apply : k0_pay24 v143 v146 v150 v153 (ix2 c l) = 1#1
    ↔ k0_pay22 v143 v146 v150 v153 (ix2 c l) = k0_pay23 v143 v146 v150 v153 (ix1 l) := by
  rw [← cmp_eq_one]
  have : k0_pay24 v143 v146 v150 v153 (ix2 c l) = Ideal.cmp .oeq (k0_pay22 v143 v146 v150 v153 (ix2 c l)) (k0_pay23 v143 v146 v150 v153 (ix1 l)) := by
    pointwise [k0_pay24]
    try rfl
  rw [this]

/-- The third pick's position. -/
theorem pay25_apply : k0_pay25 v143 v146 v150 v153 (ix1 l) = Finset.univ.fold IntOp.minsi 2147483647#32 fun x : Fin 80 =>
    if k0_pay22 v143 v146 v150 v153 (ix2 x l) = k0_pay23 v143 v146 v150 v153 (ix1 l) then v146 (ix2 x l) else BitVec.ofNat 32 100000 := by
  have : k0_pay25 v143 v146 v150 v153 (ix1 l) = Finset.univ.fold IntOp.minsi 2147483647#32 fun x : Fin 80 =>
      Scalar.select (k0_pay24 v143 v146 v150 v153 (ix2 x l)) (v146 (ix2 x l)) (BitVec.ofNat 32 100000) := by
    pointwise [k0_pay25]
  exact this.trans (congrArg (fun f => Finset.fold IntOp.minsi 2147483647#32 f Finset.univ) (funext fun x => select_iff (pay24_apply v143 v146 v150 v153 x l) _ _))

/-- The candidates with one more pick overwritten. -/
theorem pay4_apply : k0_pay4 v146 v143 v150 v153 (ix2 c l)
    = if v150 (ix2 c l) = 1#1 ∧ v146 (ix2 c l) = v153 (ix1 l) then NEG else v143 (ix2 c l) := by
  pointwise [k0_pay4]
  exact select_and _ _ _ _ _

/-- Their maximum. -/
theorem pay5_apply : k0_pay5 v146 v143 v150 v153 (ix1 l) = Finset.univ.fold max ⊥ fun x : Fin 80 => k0_pay4 v146 v143 v150 v153 (ix2 x l) := by
  pointwise [k0_pay5, ofBits_negInf]

/-- The last pick's position. -/
theorem pay7_apply : k0_pay7 v146 v143 v150 v153 (ix2 0 l) = Finset.univ.fold IntOp.minsi 2147483647#32 fun x : Fin 80 =>
    if k0_pay4 v146 v143 v150 v153 (ix2 x l) = k0_pay5 v146 v143 v150 v153 (ix1 l) then v146 (ix2 x l) else BitVec.ofNat 32 100000 := by
  pointwise [k0_pay7]

/-- The stored rows of values. -/
theorem pay20_apply : k0_pay20 v143 v146 v150 v153 (ix2 0 l) = k0_pay17 v143 v146 v150 v153 (ix1 l) := by pointwise [k0_pay20]
theorem pay26_apply : k0_pay26 v143 v146 v150 v153 (ix2 0 l) = k0_pay23 v143 v146 v150 v153 (ix1 l) := by pointwise [k0_pay26]
theorem pay6_apply : k0_pay6 v146 v143 v150 v153 (ix2 0 l) = k0_pay5 v146 v143 v150 v153 (ix1 l) := by pointwise [k0_pay6]
theorem pay14_apply (v : FVec Ideal S64 .f32) : k0_pay14 v (ix2 0 l) = v (ix1 l) := by pointwise [k0_pay14]

/-- The stored rows of positions. -/
theorem pay21_apply : k0_pay21 v143 v146 v150 v153 (ix2 0 l) = k0_pay19 v143 v146 v150 v153 (ix1 l) := by pointwise [k0_pay21]
theorem pay15_apply : k0_pay15 v153 (ix2 0 l) = v153 (ix1 l) := by pointwise [k0_pay15]
theorem pay3_apply : k0_pay3 v153 (ix2 0 l) = v153 (ix1 l) := by pointwise [k0_pay3]

end later

/-- Four rows stacked, read at a row. -/
theorem rows4_apply {α : Type} (r0 r1 r2 r3 : S1x64.Idx → α) (r : Fin 4) (l : Fin 64) :
    rows4 r0 r1 r2 r3 (ix2 r l) = (![r0 (ix2 0 l), r1 (ix2 0 l), r2 (ix2 0 l), r3 (ix2 0 l)] : Fin 4 → α) r := by
  match r with
  | 0 => rfl
  | 1 => rfl
  | 2 => rfl
  | 3 => rfl

/-- THE MERGE: with positions that are naturals below the vocabulary's size, all different, and values above the
    overwriting value, the stored rows are the four greatest candidates and their positions. -/
theorem merge_four (sv : Vec Ideal S40x128 .f32) (si : Vec Ideal S40x128 .i32) (l : Fin 64) (key : Fin 80 → ℕ)
    (hinj : Function.Injective key) (hkey : ∀ c, key c < 100000) (hw : ∀ c, k0_pay10 (F := Ideal) si (ix2 c l) = BitVec.ofNat 32 (key c))
    (hneg : ∀ c : Fin 80, NEG < k0_pay9 sv (ix2 c l)) :
    ∃ p : Fin 4 → Fin 80, Four (fun c : Fin 80 => k0_pay9 sv (ix2 c l)) key p
      ∧ (∀ r, outVal (F := Ideal) sv si (ix2 r l) = k0_pay9 sv (ix2 (p r) l))
      ∧ ∀ r, outIdx (F := Ideal) sv si (ix2 r l) = BitVec.ofNat 32 (key (p r)) := by
  have next : ∀ {b : BitVec 1} {u w : BitVec 32} {y y' M : EReal}, (b = 1#1 ↔ y = M) → y' = (if b = 1#1 ∧ u = w then NEG else y) →
      (u = w → y = M → y' = NEG) ∧ (u ≠ w → y' = y) :=
    fun hb h => ⟨fun e e' => by rw [h, if_pos ⟨hb.mpr e', e⟩], fun e => by rw [h, if_neg fun hh => e hh.2]⟩
  have hc : 4 ≤ Fintype.card (Fin 80) := by rw [Fintype.card_fin]; norm_num
  obtain ⟨p, hp, hv, hi⟩ := rounds (neg := NEG) (y0 := fun c : Fin 80 => k0_pay9 sv (ix2 c l)) (key := key) hneg hc
    hinj (fill := 100000) hkey (by norm_num) (w := fun c : Fin 80 => k0_pay10 (F := Ideal) si (ix2 c l)) hw
    (pay11_apply sv l) (pay13_apply sv si l)
    ⟨fun x => (next (pay12_apply sv x l) (pay16_apply _ _ _ _ x l)).1, fun x => (next (pay12_apply sv x l) (pay16_apply _ _ _ _ x l)).2⟩
    (pay17_apply _ _ _ _ l) (pay19_apply _ _ _ _ l)
    ⟨fun x => (next (pay18_apply _ _ _ _ x l) (pay22_apply _ _ _ _ x l)).1, fun x => (next (pay18_apply _ _ _ _ x l) (pay22_apply _ _ _ _ x l)).2⟩
    (pay23_apply _ _ _ _ l) (pay25_apply _ _ _ _ l)
    ⟨fun x => (next (pay24_apply _ _ _ _ x l) (pay4_apply _ _ _ _ x l)).1, fun x => (next (pay24_apply _ _ _ _ x l) (pay4_apply _ _ _ _ x l)).2⟩
    (pay5_apply _ _ _ _ l) (pay7_apply _ _ _ _ l)
  refine ⟨p, hp, fun r => ?_, fun r => ?_⟩
  · rw [← hv r, outVal, rows4_apply, pay14_apply, pay20_apply, pay26_apply, pay6_apply]
  · rw [← hi r, outIdx, rows4_apply, pay15_apply, pay21_apply, pay3_apply]

end Cert.KernelIdeal.Vocab

end
-- ==== Proof.Whole.lean ====
/-
  The launch's results at exact arithmetic in terms of the logits: the first four words of each row, their logits, and the
  logarithm of the sum of exponentials.
-/
module

public import proofs.«01_k».proof.Proof.Hidden
public import proofs.«01_k».proof.Proof.Merge

@[expose] public section

set_option maxRecDepth 16384

noncomputable section

namespace Cert.KernelIdeal.Vocab

open Idealize.ShloMosaic Idealize.ShloMosaic.TcCoe Idealize.ShloMosaic.VecWindow
open Cert.KernelIdeal.Gen Cert.Vocab
open Cert.ReferenceIdeal.Vocab (logit)

/-- Row `l`'s lane of half `h`. -/
def lane (h : Fin 2) (l : Fin 64) : Fin 128 := ⟨64 * h.val + l.val, by omega⟩

/-- The logits of a chunk at a lane, from the chunk's entries. -/
theorem lg_lane (x1 : Vec Ideal S512x64 .f32) (x2 : Vec Ideal S10000x512 .f32) (h : Fin 2) (l : Fin 64) (a : Fin 5000) :
    lg (F := Ideal) x1 x2 (ix2 a (lane h l)) = ∑ k : Fin 512, x1 (ix2 k l) * x2 (ix2 (⟨5000 * h.val + a.val, by omega⟩ : Fin 10000) k) := by
  have hlo : ∀ x, lo x2 (ix2 a x) = x2 (ix2 (⟨5000 * 0 + a.val, by omega⟩ : Fin 10000) x) := fun x => congrArg x2 (funext fun i => Fin.ext (by
    refine (Rect.emb_apply _ _ i).trans ?_
    match i with
    | 0 => show 0 + 1 * a.val = 5000 * 0 + a.val; omega
    | 1 => show 0 + 1 * x.val = x.val; omega))
  have hhi : ∀ x, hi x2 (ix2 a x) = x2 (ix2 (⟨5000 * 1 + a.val, by omega⟩ : Fin 10000) x) := fun x => congrArg x2 (funext fun i => Fin.ext (by
    refine (Rect.emb_apply _ _ i).trans ?_
    match i with
    | 0 => show 5000 + 1 * a.val = 5000 * 1 + a.val; omega
    | 1 => show 0 + 1 * x.val = x.val; omega))
  rw [lg]
  generalize lo x2 = y at hlo
  generalize hi x2 = z at hhi
  have e : k0_pay29 y x1 z x1 (ix2 a (lane h l)) = if hl : (lane h l).val < 64 then ∑ x : Fin 512, y (ix2 a x) * x1 (ix2 x ⟨(lane h l).val, hl⟩)
      else ∑ x : Fin 512, z (ix2 a x) * x1 (ix2 x ⟨(lane h l).val - 64, by omega⟩) := by
    pointwise [k0_pay29]
  rw [e]
  match h with
  | 0 =>
    rw [dif_pos (show (lane 0 l).val < 64 by simp only [lane]; omega)]
    refine Finset.sum_congr rfl fun x _ => ?_
    rw [hlo, mul_comm]
    exact congrArg (fun i => x1 (ix2 x i) * _) (Fin.ext (Nat.zero_add l.val))
  | 1 =>
    rw [dif_neg (show ¬ (lane 1 l).val < 64 by simp only [lane]; omega)]
    refine Finset.sum_congr rfl fun x _ => ?_
    rw [hhi, mul_comm]
    exact congrArg (fun i => x1 (ix2 x i) * _) (Fin.ext (Nat.add_sub_cancel_left 64 l.val))

section
variable (m : (ℓ : Loc nD τ sig) → Buf (Elt Ideal) ℓ) (c : Dev nD)

/-- THE LOGITS the launch computes. -/
theorem lg_cell (k : Fin 10) (h : Fin 2) (l : Fin 64) (a : Fin 5000) :
    lg (F := Ideal) (X1 m c) (Xb m c k) (ix2 a (lane h l)) = logit (argH m c) (argE m c) l (cell k h a) := by
  rw [lg_lane, logit]
  exact Finset.sum_congr rfl fun x _ => congrArg₂ _ (X1_apply m c x l) (Xb_apply m c k _ x (cell k h a) (by simp only [cell]; omega))

/-- A position as the word the kernel computes. -/
theorem vpos_cell (k : Fin 10) (h : Fin 2) (l : Fin 64) (a : Fin 5000) :
    vpos (BitVec.ofNat 32 k.val) (lane h l) (BitVec.ofNat 32 a.val) = BitVec.ofNat 32 (cell k h a).val := by
  have e : offs (lane h l) = BitVec.ofNat 32 (5000 * h.val) := by
    match h with
    | 0 => rw [offs, if_neg (show ¬ 64 ≤ (lane 0 l).val by simp only [lane]; omega)]; rfl
    | 1 => rw [offs, if_pos (show 64 ≤ (lane 1 l).val by simp only [lane]; omega)]; rfl
  rw [vpos, e, ← BitVec.ofNat_mul, ← BitVec.ofNat_add, ← BitVec.ofNat_add]
  congr 1
  simp only [cell]
  omega

/-- The candidates of the merge, from the tables' rows. -/
theorem pay9_cand (sv : Vec Ideal S40x128 .f32) (d : Fin 80) (l : Fin 64) :
    k0_pay9 sv (ix2 d l) = sv (ix2 (⟨d.val % 40, by omega⟩ : Fin 40) (lane (candHalf d) l)) := by
  rw [pay9_apply]
  split <;> refine congrArg sv (congrArg₂ ix2 (Fin.ext ?_) (Fin.ext ?_)) <;> simp only [lane, candHalf] <;> omega
theorem pay10_cand (si : Vec Ideal S40x128 .i32) (d : Fin 80) (l : Fin 64) :
    k0_pay10 (F := Ideal) si (ix2 d l) = si (ix2 (⟨d.val % 40, by omega⟩ : Fin 40) (lane (candHalf d) l)) := by
  rw [pay10_apply]
  split <;> refine congrArg si (congrArg₂ ix2 (Fin.ext ?_) (Fin.ext ?_)) <;> simp only [lane, candHalf] <;> omega

/-- A candidate's place, from its table row. -/
theorem placeOf_cand (d : Fin 80) : placeOf ⟨d.val % 40, by omega⟩ = candPlace d :=
  Fin.ext (by simp only [placeOf, candPlace]; omega)

/-- The tables' entries of a candidate. -/
theorem tabVal_cand (x0 : Vec Ideal S5000x128 .i32) (x1 : Vec Ideal S512x64 .f32) (xb : Fin 10 → Vec Ideal S10000x512 .f32) (d : Fin 80) (b : Fin 128) :
    tabVal x0 x1 xb (ix2 (⟨d.val % 40, by omega⟩ : Fin 40) b) = blkVal x0 x1 (xb (candChunk d)) (ix2 (candPlace d) b) := by
  rw [← placeOf_cand]
  rfl
theorem tabIdx_cand (x0 : Vec Ideal S5000x128 .i32) (x1 : Vec Ideal S512x64 .f32) (xb : Fin 10 → Vec Ideal S10000x512 .f32) (d : Fin 80) (b : Fin 128) :
    tabIdx x0 x1 xb (ix2 (⟨d.val % 40, by omega⟩ : Fin 40) b) = blkIdx (BitVec.ofNat 32 (candChunk d).val) x0 x1 (xb (candChunk d)) (ix2 (candPlace d) b) := by
  rw [← placeOf_cand]
  rfl

/-- Each group's four. -/
theorem groups (l : Fin 64) (hneg : ∀ v, NEG < logit (argH m c) (argE m c) l v) :
    ∃ q : Fin 10 → Fin 2 → Fin 4 → Fin 5000, ∀ k h, Four (fun a => logit (argH m c) (argE m c) l (cell k h a)) Fin.val (q k h)
      ∧ (∀ r, blkVal (X0 m c) (X1 m c) (Xb m c k) (ix2 r (lane h l)) = logit (argH m c) (argE m c) l (cell k h (q k h r)))
      ∧ ∀ r, blkIdx (BitVec.ofNat 32 k.val) (X0 m c) (X1 m c) (Xb m c k) (ix2 r (lane h l)) = BitVec.ofNat 32 (cell k h (q k h r)).val := by
  have : ∀ k h, ∃ q : Fin 4 → Fin 5000, Four (fun a => logit (argH m c) (argE m c) l (cell k h a)) Fin.val q
      ∧ (∀ r, blkVal (X0 m c) (X1 m c) (Xb m c k) (ix2 r (lane h l)) = logit (argH m c) (argE m c) l (cell k h (q r)))
      ∧ ∀ r, blkIdx (BitVec.ofNat 32 k.val) (X0 m c) (X1 m c) (Xb m c k) (ix2 r (lane h l)) = BitVec.ofNat 32 (cell k h (q r)).val := fun k h => by
    obtain ⟨p, hp, hv, hi⟩ := chunk_four (BitVec.ofNat 32 k.val) (X0 m c) (X1 m c) (Xb m c k) (lane h l)
      (fun x => X0_apply m c x _) (fun x => by rw [lg_cell]; exact hneg _)
    refine ⟨p, ?_, fun r => (hv r).trans (lg_cell ..), fun r => (hi r).trans (vpos_cell k h l (p r))⟩
    rwa [show (fun a => logit (argH m c) (argE m c) l (cell k h a)) = fun a => lg (F := Ideal) (X1 m c) (Xb m c k) (ix2 a (lane h l)) from
      funext fun a => (lg_cell m c k h l a).symm]
  choose q hq using this
  exact ⟨q, hq⟩

/-- THE FIRST FOUR WORDS of a row, their logits and their positions, in the launch's results. -/
theorem results_four (l : Fin 64) (hneg : ∀ v, NEG < logit (argH m c) (argE m c) l v) :
    ∃ P : Fin 4 → Fin 100000, Four (logit (argH m c) (argE m c) l) Fin.val P
      ∧ (∀ r, resVal m c (ix2 r l) = logit (argH m c) (argE m c) l (P r))
      ∧ ∀ r, resIdx m c (ix2 r l) = BitVec.ofNat 32 (P r).val := by
  obtain ⟨q, hq⟩ := groups m c l hneg
  have hF := fun k h => (hq k h).1
  have hv : ∀ d : Fin 80, k0_pay9 (tabVal (X0 m c) (X1 m c) (Xb m c)) (ix2 d l) = logit (argH m c) (argE m c) l (candPos q d) := fun d => by
    rw [pay9_cand, tabVal_cand, (hq _ _).2.1, candPos]
  have hi : ∀ d : Fin 80, k0_pay10 (F := Ideal) (tabIdx (X0 m c) (X1 m c) (Xb m c)) (ix2 d l) = BitVec.ofNat 32 (candPos q d).val := fun d => by
    rw [pay10_cand, tabIdx_cand, (hq _ _).2.2, candPos]
  obtain ⟨p, hp, hpv, hpi⟩ := merge_four (tabVal (X0 m c) (X1 m c) (Xb m c)) (tabIdx (X0 m c) (X1 m c) (Xb m c)) l
    (fun d => (candPos q d).val) (fun d d' e => candPos_injective hF (Fin.ext e)) (fun d => (candPos q d).isLt) hi
    (fun d => by rw [hv]; exact hneg _)
  refine ⟨candPos q ∘ p, four_of_groups hF ?_, fun r => (hpv r).trans (hv _), fun r => hpi r⟩
  rwa [show (logit (argH m c) (argE m c) l ∘ candPos q) = fun d : Fin 80 => k0_pay9 (tabVal (X0 m c) (X1 m c) (Xb m c)) (ix2 d l) from
    funext fun d => (hv d).symm]

/-- The merge's third result, from the rows of maxima and sums. -/
theorem pay8_apply (sm ss : Vec Ideal S10x128 .f32) (l : Fin 64) :
    outLse (F := Ideal) sm ss (ix2 0 l)
    = max (top fun k : Fin 10 => sm (ix2 k (lane 0 l))) (top fun k : Fin 10 => sm (ix2 k (lane 1 l))) + Ideal.log
      ((∑ k : Fin 10, ss (ix2 k (lane 0 l)) * Ideal.exp (sm (ix2 k (lane 0 l)) - top fun k : Fin 10 => sm (ix2 k (lane 0 l))))
          * Ideal.exp ((top fun k : Fin 10 => sm (ix2 k (lane 0 l))) - max (top fun k : Fin 10 => sm (ix2 k (lane 0 l))) (top fun k : Fin 10 => sm (ix2 k (lane 1 l))))
        + (∑ k : Fin 10, ss (ix2 k (lane 1 l)) * Ideal.exp (sm (ix2 k (lane 1 l)) - top fun k : Fin 10 => sm (ix2 k (lane 1 l))))
          * Ideal.exp ((top fun k : Fin 10 => sm (ix2 k (lane 1 l))) - max (top fun k : Fin 10 => sm (ix2 k (lane 0 l))) (top fun k : Fin 10 => sm (ix2 k (lane 1 l))))) := by
  have e0 : lane 0 l = ⟨l.val, by omega⟩ := Fin.ext (Nat.zero_add _)
  rw [e0, show lane 1 l = ⟨64 + l.val, by omega⟩ from rfl]
  pointwise [outLse, k0_pay8, ofBits_negInf]

/-- THE LOGARITHM OF THE SUM OF EXPONENTIALS of a row, in the launch's results. -/
theorem result_lse (l : Fin 64) (f : Fin 100000 → ℝ) (hf : ∀ v, logit (argH m c) (argE m c) l v = f v) :
    resLse m c (ix2 0 l) = Ideal.log (∑ v, Ideal.exp ((f v : EReal) - top fun v => (f v : EReal))) + top fun v => (f v : EReal) := by
  have hM : ∀ k h, tabMax (X1 m c) (Xb m c) (ix2 k (lane h l)) = top fun a : Fin 5000 => (f (cell k h a) : EReal) := fun k h => by
    refine (rowMax_apply (X1 m c) (Xb m c k) (lane h l)).trans ?_
    simp only [lg_cell, hf]
  have hS : ∀ k h, tabSum (X1 m c) (Xb m c) (ix2 k (lane h l))
      = ∑ a : Fin 5000, Ideal.exp ((f (cell k h a) : EReal) - top fun a : Fin 5000 => (f (cell k h a) : EReal)) := fun k h => by
    refine (rowSum_apply (X1 m c) (Xb m c k) (lane h l)).trans ?_
    rw [show rowMax (X1 m c) (Xb m c k) (ix2 0 (lane h l)) = _ from hM k h]
    simp only [lg_cell, hf]
  rw [resLse, pay8_apply]
  simp only [hM, hS]
  exact lse_cells f _ _ rfl rfl

end

end Cert.KernelIdeal.Vocab

end
-- ==== Proof.Within.lean ====
/-
  What the precondition says of the arguments' entries.
-/
module

public import proofs.«01_k».proof.Pre_bounded
public import Idealize.ShloMosaic.Lib.Pointwise
public import Idealize.ShloMosaic.PureOps.Ideal.Laws

@[expose] public section

set_option maxRecDepth 16384

noncomputable section

namespace Cert.Pre_bounded

open Idealize.ShloMosaic

/-- The predicate's shape facts. -/
theorem shape_facts : Cert.Pre_bounded.Facts where
  reducesTo_S100000x512_S_d0_1 := by decide
  h_S_ := by decide
  reducesTo_S64x1_S_d0_1 := by decide

/-- The exact maximum, as an operation. -/
abbrev fmax : EReal → EReal → EReal := FloatOps.maximumf (F := Ideal) (φ := .f32)

/-- … is the maximum. -/
theorem fmax_eq : fmax = max := rfl

/-- A maximum over all entries is above each. -/
theorem le_reduce {s : Shape} {axes : List (Fin s.rank)} (x : s.Idx → EReal) (init : S_.Idx → EReal) (h : s.ReducesTo axes S_) (hu : 0 < S_.numel) (i : s.Idx) (j : S_.Idx) :
    x i ≤ Host.reduce fmax x init h hu j := by
  rw [fmax_eq, Host.reduce_eq_fold]
  refine (Finset.le_fold_max _).mpr (.inr ⟨i, ?_, le_rfl⟩)
  rw [Finset.mem_filter]
  exact ⟨Finset.mem_univ _, funext fun a => a.elim0⟩

/-- A conjunction of bits is set where both are. -/
theorem andi_one {a b : BitVec 1} (h : IntOp.andi a b = 1#1) : a = 1#1 ∧ b = 1#1 := by
  revert a b
  decide

/-- A comparison's bit says the inequality. -/
theorem cmp_le {a b : EReal} (h : Ideal.cmp .ole a b = 1#1) : a ≤ b := by
  by_contra hn
  simp [Ideal.cmp, hn] at h

/-- … and so do the comparisons of signed words. -/
theorem cmp_sge {a b : BitVec 32} (h : IntOp.cmpi .sge a b = 1#1) : b.toInt ≤ a.toInt := by
  by_contra hn
  simp [IntOp.cmpi, BitVec.sle, hn] at h
theorem cmp_sle {a b : BitVec 32} (h : IntOp.cmpi .sle a b = 1#1) : a.toInt ≤ b.toInt := by
  by_contra hn
  simp [IntOp.cmpi, BitVec.sle, hn] at h

/-- The patterns of the two bounds. -/
theorem ofBits_scores : Ideal.ofBits .f32 0x4CBEBC20#32 = ((100000000 : ℝ) : EReal) := by
  simp [Ideal.ofBits, Ideal.ieee]
  rw [← EReal.coe_pow, ← EReal.coe_mul]
  norm_num
theorem ofBits_thousand : Ideal.ofBits .f32 0x447A0000#32 = ((1000 : ℝ) : EReal) := by
  simp [Ideal.ofBits, Ideal.ieee]
  rw [← EReal.coe_mul]
  norm_num

/-- A number whose absolute value is at most a real one is a real number within it. -/
theorem within {a : EReal} {r : ℝ} (h : max a (-a) ≤ (r : EReal)) : ∃ s : ℝ, a = s ∧ |s| ≤ r := by
  induction a with
  | bot => exact absurd h (by simp)
  | top => exact absurd h (by simp)
  | coe s =>
    refine ⟨s, rfl, abs_le'.mpr ⟨?_, ?_⟩⟩
    · exact EReal.coe_le_coe_iff.mp ((le_max_left _ _).trans h)
    · exact EReal.coe_le_coe_iff.mp (by rw [EReal.coe_neg]; exact (le_max_right _ _).trans h)

/-- Entries whose greatest absolute value is found to be at most `r` are real numbers within `r`. -/
theorem within_of_bit {s : Shape} {axes : List (Fin s.rank)} (x : FVec Ideal s .f32) (init w : FVec Ideal S_ .f32) (r : ℝ) (hw : w ix0 = (r : EReal)) (h : s.ReducesTo axes S_) (hu : 0 < S_.numel)
    (hb : cmpf .ole (Host.reduce (FloatOps.maximumf (F := Ideal) (φ := .f32)) (Host.absf (F := Ideal) (φ := .f32) x) init h hu) w ix0 = 1#1) (i : s.Idx) :
    ∃ a : ℝ, x i = a ∧ |a| ≤ r := by
  refine within ?_
  rw [← hw]
  exact (le_reduce (Host.absf (F := Ideal) (φ := .f32) x) init h hu i ix0).trans (cmp_le hb)

/-- THE PRECONDITION, entry by entry. -/
theorem entries [hf : Cert.Pre_bounded.Facts] (n : IVec S_ 32) (x1 : IVec S64x7 32) (s : FVec Ideal S64x1 .f32) (x3 : IVec S64 32) (x4 : FVec Ideal S16x512x512 .f32)
    (x5 : FVec Ideal S16x512 .f32) (E : FVec Ideal S100000x512 .f32) (x7 : FVec Ideal S64x512 .f32) (x8 x9 : FVec Ideal S512x512 .f32)
    (h : Cert.Pre_bounded.fn (F := Ideal) n x1 s x3 x4 x5 E x7 x8 x9 = fun _ => 1#1) :
    (∀ i, ∃ a : ℝ, E i = a ∧ |a| ≤ 1000) ∧ (∀ i, ∃ a : ℝ, s i = a ∧ |a| ≤ 100000000) ∧ 1 ≤ (n ix0).toInt ∧ (n ix0).toInt ≤ 6 := by
  unfold Cert.Pre_bounded.fn at h
  obtain ⟨h12, h3⟩ := andi_one (congrFun h ix0)
  obtain ⟨h0, h2⟩ := andi_one h12
  obtain ⟨ha, hb⟩ := andi_one h0
  exact ⟨within_of_bit E _ _ 1000 ofBits_thousand _ _ h2, within_of_bit s _ _ 100000000 ofBits_scores _ _ h3, cmp_sge ha, cmp_sle hb⟩

end Cert.Pre_bounded

end
-- ==== Proof.Bound.lean ====
/-
  Under the precondition every logit is a real number above the value the kernel overwrites with.
-/
module

public import proofs.«01_k».proof.Proof.Refer
public import proofs.«01_k».proof.Proof.Within

@[expose] public section

set_option maxRecDepth 16384

noncomputable section

namespace Cert.ReferenceIdeal.Vocab

open Idealize.ShloMosaic Cert.Vocab Cert.ReferenceIdeal

/-- The overwriting value is −10⁹. -/
theorem ofBits_mask : Ideal.ofBits .f32 0xCE6E6B28#32 = ((-1000000000 : ℝ) : EReal) := by
  simp [Ideal.ofBits, Ideal.ieee]
  rw [← EReal.coe_pow, ← EReal.coe_mul]
  norm_num

/-- A hyperbolic tangent is a real number within one, of whatever number. -/
theorem tanh_real (u : EReal) : ∃ s : ℝ, Ideal.tanh u = s ∧ |s| ≤ 1 := by
  induction u with
  | bot => exact ⟨-1, by rw [Ideal.tanh_bot, EReal.coe_neg, EReal.coe_one], by norm_num⟩
  | top => exact ⟨1, by rw [Ideal.tanh_top, EReal.coe_one], by norm_num⟩
  | coe r => exact ⟨Real.tanh r, Ideal.tanh_coe .., (Real.abs_tanh_lt_one r).le⟩

/-- THE LOGITS ARE BOUNDED: 512 products of at most 1000 each. -/
theorem logit_real (H : FVec Ideal S64x512 .f32) (E : FVec Ideal S100000x512 .f32)
    (hH : ∀ i, ∃ s : ℝ, H i = s ∧ |s| ≤ 1) (hE : ∀ i, ∃ s : ℝ, E i = s ∧ |s| ≤ 1000) (l : Fin 64) :
    ∃ f : Fin 100000 → ℝ, (∀ v, logit H E l v = f v) ∧ ∀ v, Ideal.ofBits .f32 0xCE6E6B28#32 < logit H E l v := by
  choose a ha ha' using hH
  choose b hb hb' using hE
  have e : ∀ v, logit H E l v = ((∑ k : Fin 512, a (ix2 l k) * b (ix2 v k) : ℝ) : EReal) := fun v => by
    rw [logit, ← sum_coe]
    exact Finset.sum_congr rfl fun k _ => by rw [ha, hb, EReal.coe_mul]
  refine ⟨fun v => ∑ k : Fin 512, a (ix2 l k) * b (ix2 v k), e, fun v => ?_⟩
  rw [e, ofBits_mask, EReal.coe_lt_coe_iff]
  have hs : ∑ _k : Fin 512, (-1000 : ℝ) ≤ ∑ k : Fin 512, a (ix2 l k) * b (ix2 v k) := Finset.sum_le_sum fun k _ => by
    have h1 := abs_le.mp ((abs_mul (a (ix2 l k)) (b (ix2 v k))).le.trans
      (mul_le_mul (ha' (ix2 l k)) (hb' (ix2 v k)) (abs_nonneg _) zero_le_one))
    rw [one_mul] at h1
    exact h1.1
  refine lt_of_lt_of_le ?_ hs
  rw [Finset.sum_const, Finset.card_univ, Fintype.card_fin]
  norm_num

end Cert.ReferenceIdeal.Vocab

end
-- ==== Proof.Next.lean ====
/-
  The arrays made after the pass: the candidates' totals and words, the picks, and the next prefixes and scores.
-/
module

public import proofs.«01_k».proof.Proof.Index

@[expose] public section

set_option maxRecDepth 16384

noncomputable section

namespace Cert.Vocab

open Idealize.ShloMosaic Idealize.ShloMosaic.Routing Cert.KernelIdeal Cert.KernelIdeal.Gen

/-- The finished rays. -/
def finished (a3 : IVec S64 32) : IVec S64 1 := cmpi .sgt a3 (broadcastInDim S64 ![] bcast_S_S64 (constantI S_ 32 0#32))

/-- What a finished ray's candidates add: nothing for the first, the mask's value for the others. -/
def padCand : FVec Ideal S1x4 .f32 :=
  broadcastInDim S1x4 ![1] bcast_S4_S1x4_1 (select (cmpi .eq (iotaInDim S4 32 0) (broadcastInDim S4 ![] bcast_S_S4 (constantI S_ 32 0#32)))
    (broadcastInDim S4 ![] bcast_S_S4 (constant S_ .f32 0x00000000#32)) (broadcastInDim S4 ![] bcast_S_S4 (constant S_ .f32 0xCE6E6B28#32)))

/-- The candidates' totals, from the scores, the finished marks, and the pass's logits and logarithms. -/
def candTotals (a2 : FVec Ideal S64x1 .f32) (a3 : IVec S64 32) (vals : FVec Ideal S4x64 .f32) (lse : FVec Ideal S1x64 .f32) : FVec Ideal S64x4 .f32 :=
  addf (broadcastInDim S64x4 ![0, 1] bcast_S64x1_S64x4_0_1 a2)
    (select (broadcastInDim S64x4 ![0, 1] bcast_S64x1_S64x4_0_1 (broadcastInDim S64x1 ![0] bcast_S64_S64x1_0 (finished a3)))
      (broadcastInDim S64x4 ![0, 1] bcast_S1x4_S64x4_0_1 (id padCand))
      (subf (transpose S64x4 [1, 0] vals transposes_S4x64_S64x4_1_0)
        (broadcastInDim S64x4 ![0, 1] bcast_S64x1_S64x4_0_1 (broadcastInDim S64x1 ![0] bcast_S64_S64x1_0 (shapeCast S64 lse shapeCasts_S1x64_S64)))))

/-- The candidates' words, from the pass's words: a finished ray's are the padding. -/
def candWords (a3 : IVec S64 32) (words : IVec S4x64 32) : IVec S64x4 32 :=
  select (broadcastInDim S64x4 ![0, 1] bcast_S64x1_S64x4_0_1 (broadcastInDim S64x1 ![0] bcast_S64_S64x1_0 (finished a3)))
    (broadcastInDim S64x4 ![] bcast_S_S64x4 (id (constantI S_ 32 0#32))) (transpose S64x4 [1, 0] words transposes_S4x64_S64x4_1_0)

/-- What the totals are divided by at position `i`. -/
def pen (i : IVec S_ 32) : FVec Ideal S_ .f32 :=
  Host.powf (Host.divf (addf (constant S_ .f32 0x40A00000#32) (sitofp .f32 (addi i (constantI S_ 32 1#32)))) (constant S_ .f32 0x40C00000#32)) (constant S_ .f32 0x3F19999A#32)

/-- The four picked candidates of each of the sixteen, where the totals are divided by `q`. -/
def picks (q : FVec Ideal S_ .f32) (T : FVec Ideal S64x4 .f32) : IVec S16x4 32 :=
  (Host.topK S16x4 1 (FloatOps.cmpfTotal .gt) (shapeCast S16x16 (Host.divf T (broadcastInDim S64x4 ![] bcast_S_S64x4 (id q))) shapeCasts_S64x4_S16x16) sliceFits_S16x16_S16x4).2

/-- The rays picked. -/
def parentOf (p : IVec S16x4 32) : IVec S16x4 32 := pyDiv bcast_S_S16x4 p (id (constantI S_ 32 4#32))

/-- The words picked. -/
def wordsOf (w : IVec S64x4 32) (p : IVec S16x4 32) : IVec S16x4 32 :=
  takeAlong 16 gather_S16x16_S16x4x1_S16x4_n_1_0_0_1_2_11.wf 16#32 15#32 (shapeCast S16x16 w shapeCasts_S64x4_S16x16) p (broadcastInDim S16x4 ![] bcast_S_S16x4 (constantI S_ 32 2147483648#32))

/-- The totals picked. -/
def totalsOf (T : FVec Ideal S64x4 .f32) (p : IVec S16x4 32) : FVec Ideal S16x4 .f32 :=
  takeAlong 16 gather_S16x16_S16x4x1_S16x4_n_1_0_0_1_2_11.wf 16#32 15#32 (shapeCast S16x16 T shapeCasts_S64x4_S16x16) p (broadcastInDim S16x4 ![] bcast_S_S16x4 (constant S_ .f32 0x7FC00000#32))

/-- The rows of the prefixes kept, from the rays picked. -/
def keptRows (parent : IVec S16x4 32) : IVec S64 32 :=
  shapeCast S64 (addi parent (broadcastInDim S16x4 ![0, 1] bcast_S16x1_S16x4_0_1 (muli (broadcastInDim S16x1 ![0] bcast_S16_S16x1_0 (iotaInDim S16 32 0)) (broadcastInDim S16x1 ![] bcast_S_S16x1 (constantI S_ 32 4#32))))) shapeCasts_S16x4_S64

/-- … counted from the end where they are negative, as indices. -/
def keptIndices (parent : IVec S16x4 32) : IVec S64x1 32 :=
  broadcastInDim S64x1 ![0] bcast_S64_S64x1_0
    (select (cmpi .slt (keptRows parent) (broadcastInDim S64 ![] bcast_S_S64 (constantI S_ 32 0#32))) (addi (keptRows parent) (broadcastInDim S64 ![] bcast_S_S64 (constantI S_ 32 64#32))) (keptRows parent))

/-- The next prefixes, from the rays and the words picked. -/
def nextPrefixes (a1 : IVec S64x7 32) (parent word : IVec S16x4 32) : IVec S64x8 32 :=
  concatenate S64x8 1 [⟨S64x7, Host.gather gather_S64x7_S64x1_S64x7_1_0_n_n_0_1_17 a1 (keptIndices parent)⟩,
    ⟨S64x1, shapeCast S64x1 word shapeCasts_S16x4_S64x1⟩] concatenates_S64x7_S64x1_S64x8_d1

/-- The next scores, from the totals picked. -/
def nextScores (x : FVec Ideal S16x4 .f32) : FVec Ideal S64x1 .f32 := shapeCast S64x1 x shapeCasts_S16x4_S64x1

/-- The next finished marks, from the rays and the words picked. -/
def nextFinished (a3 : IVec S64 32) (parent word : IVec S16x4 32) : IVec S64 32 :=
  maxsi (Host.gather gather_S64_S64x1_S64_n_0_n_n_0_1_1 a3 (keptIndices parent))
    (extui 32 (cmpi .eq (shapeCast S64 word shapeCasts_S16x4_S64) (broadcastInDim S64 ![] bcast_S_S64 (constantI S_ 32 2#32))) natLt_1_32)

end Cert.Vocab

end
-- ==== Proof.Tail.lean ====
/-
  The lines after the launch: the three results in terms of the launch's.
-/
module

public import proofs.«01_k».proof.Proof.Launch
public import proofs.«01_k».proof.Proof.Next

@[expose] public section

set_option maxRecDepth 16384

noncomputable section

namespace Cert.KernelIdeal.Vocab

open Idealize.ShloMosaic Idealize.ShloMosaic.TcCoe Idealize.ShloMosaic.Tactic Idealize.SL.Sem
open Cert.KernelIdeal.Gen Cert.Vocab

section
variable (W : Valuation τ sig (Elt Ideal))

/-- The lines up to the picks. -/
abbrev upto3 : Valuation τ sig (Elt Ideal) := StableHlo.after hostOps1_3 (StableHlo.after hostOps1_2 (StableHlo.after hostOps1_1 (StableHlo.after hostOps1 W)))
abbrev upto6 : Valuation τ sig (Elt Ideal) := StableHlo.after hostOps1_6 (StableHlo.after hostOps1_5 (StableHlo.after hostOps1_4 (upto3 W)))

theorem up_totals : upto6 W (Proc.devRef .tc main_v53)
    = candTotals (W (Proc.devRef .tc main_arg2)) (W (Proc.devRef .tc main_arg3)) (W (Proc.devRef .tc main_v34_1)) (W (Proc.devRef .tc main_v34_0)) := by
  after_results
  rfl
theorem up_words : upto6 W (Proc.devRef .tc main_v51) = candWords (W (Proc.devRef .tc main_arg3)) (W (Proc.devRef .tc main_v34_2)) := by
  after_results
  rfl
theorem up_picks : upto6 W (Proc.devRef .tc main_indices)
    = picks (pen (W (Proc.devRef .tc main_arg0))) (candTotals (W (Proc.devRef .tc main_arg2)) (W (Proc.devRef .tc main_arg3)) (W (Proc.devRef .tc main_v34_1)) (W (Proc.devRef .tc main_v34_0))) := by
  after_results
  rfl
theorem up_four : upto6 W (Proc.devRef .tc main_c_17) = (constantI S_ 32 4#32 : IVec S_ 32) := by
  after_results
theorem up_prefixes : upto6 W (Proc.devRef .tc main_arg1) = W (Proc.devRef .tc main_arg1) := by
  after_results
theorem up_finished : upto6 W (Proc.devRef .tc main_arg3) = W (Proc.devRef .tc main_arg3) := by
  after_results

/-- The lines that divide the picks. -/
theorem div_parent : StableHlo.after hostOps1_7 W (Proc.devRef .tc main_v63) = Routing.pyDiv bcast_S_S16x4 (W (Proc.devRef .tc main_indices)) (id (W (Proc.devRef .tc main_c_17))) := by
  after_results
  rfl
/-- The lines that take the words. -/
abbrev upto9 : Valuation τ sig (Elt Ideal) := StableHlo.after hostOps1_9 (StableHlo.after hostOps1_8 W)
theorem take_words : upto9 W (Proc.devRef .tc main_v65) = wordsOf (W (Proc.devRef .tc main_v51)) (W (Proc.devRef .tc main_indices)) := by
  after_results
  rfl
/-- The lines that take the totals. -/
abbrev upto11 : Valuation τ sig (Elt Ideal) := StableHlo.after hostOps1_11 (StableHlo.after hostOps1_10 W)
theorem take_totals : upto11 W (Proc.devRef .tc main_v67) = totalsOf (W (Proc.devRef .tc main_v53)) (W (Proc.devRef .tc main_indices)) := by
  after_results
  rfl
/-- The last lines. -/
theorem last_prefixes : StableHlo.after hostOps1_12 W (Proc.devRef .tc main_v84) = nextPrefixes (W (Proc.devRef .tc main_arg1)) (W (Proc.devRef .tc main_v63)) (W (Proc.devRef .tc main_v65)) := by
  after_results
  rfl
theorem last_scores : StableHlo.after hostOps1_12 W (Proc.devRef .tc main_v68) = nextScores (W (Proc.devRef .tc main_v67)) := by
  after_results
  rfl

theorem last_finished : StableHlo.after hostOps1_12 W (Proc.devRef .tc main_v96) = nextFinished (W (Proc.devRef .tc main_arg3)) (W (Proc.devRef .tc main_v63)) (W (Proc.devRef .tc main_v65)) := by
  after_results
  rfl

/-- What these lines keep. -/
theorem kept7 {r : Ref sig .tc} (h : r ∉ hostOps1_7_W) : StableHlo.after hostOps1_7 W (Proc.devRef .tc r) = W (Proc.devRef .tc r) :=
  StableHlo.after_of_writes_sub hostOps1_7 W hostOps1_7_writes h
theorem kept9 {r : Ref sig .tc} (h8 : r ∉ hostOps1_8_W) (h9 : r ∉ hostOps1_9_W) : upto9 W (Proc.devRef .tc r) = W (Proc.devRef .tc r) :=
  (StableHlo.after_of_writes_sub hostOps1_9 _ hostOps1_9_writes h9).trans (StableHlo.after_of_writes_sub hostOps1_8 W hostOps1_8_writes h8)
theorem kept11 {r : Ref sig .tc} (h10 : r ∉ hostOps1_10_W) (h11 : r ∉ hostOps1_11_W) : upto11 W (Proc.devRef .tc r) = W (Proc.devRef .tc r) :=
  (StableHlo.after_of_writes_sub hostOps1_11 _ hostOps1_11_writes h11).trans (StableHlo.after_of_writes_sub hostOps1_10 W hostOps1_10_writes h10)

/-- The lines after the launch, one list after the other. -/
theorem tail_lists : StableHlo.after (List.flatten [hostOps1, hostOps1_1, hostOps1_2, hostOps1_3, hostOps1_4, hostOps1_5, hostOps1_6, hostOps1_7, hostOps1_8, hostOps1_9, hostOps1_10, hostOps1_11, hostOps1_12]) W
    = StableHlo.after hostOps1_12 (upto11 (upto9 (StableHlo.after hostOps1_7 (upto6 W)))) := by
  simp only [List.flatten_cons, List.flatten_nil, List.append_nil, StableHlo.after_append]

/-- THE THREE RESULTS, from what the lines after the launch find. -/
theorem tail_prefixes : StableHlo.after (List.flatten [hostOps1, hostOps1_1, hostOps1_2, hostOps1_3, hostOps1_4, hostOps1_5, hostOps1_6, hostOps1_7, hostOps1_8, hostOps1_9, hostOps1_10, hostOps1_11, hostOps1_12]) W (Proc.devRef .tc main_v84)
    = nextPrefixes (W (Proc.devRef .tc main_arg1))
        (parentOf (picks (pen (W (Proc.devRef .tc main_arg0))) (candTotals (W (Proc.devRef .tc main_arg2)) (W (Proc.devRef .tc main_arg3)) (W (Proc.devRef .tc main_v34_1)) (W (Proc.devRef .tc main_v34_0)))))
        (wordsOf (candWords (W (Proc.devRef .tc main_arg3)) (W (Proc.devRef .tc main_v34_2)))
          (picks (pen (W (Proc.devRef .tc main_arg0))) (candTotals (W (Proc.devRef .tc main_arg2)) (W (Proc.devRef .tc main_arg3)) (W (Proc.devRef .tc main_v34_1)) (W (Proc.devRef .tc main_v34_0))))) := by
  rw [tail_lists, last_prefixes,
    kept11 _ (r := main_arg1) (by decide +kernel) (by decide +kernel), kept9 _ (r := main_arg1) (by decide +kernel) (by decide +kernel), kept7 _ (r := main_arg1) (by decide +kernel), up_prefixes,
    kept11 _ (r := main_v63) (by decide +kernel) (by decide +kernel), kept9 _ (r := main_v63) (by decide +kernel) (by decide +kernel), div_parent, up_four, up_picks,
    kept11 _ (r := main_v65) (by decide +kernel) (by decide +kernel), take_words, kept7 _ (r := main_v51) (by decide +kernel), kept7 _ (r := main_indices) (by decide +kernel), up_words, up_picks]
  rfl
theorem tail_finished : StableHlo.after (List.flatten [hostOps1, hostOps1_1, hostOps1_2, hostOps1_3, hostOps1_4, hostOps1_5, hostOps1_6, hostOps1_7, hostOps1_8, hostOps1_9, hostOps1_10, hostOps1_11, hostOps1_12]) W (Proc.devRef .tc main_v96)
    = nextFinished (W (Proc.devRef .tc main_arg3))
        (parentOf (picks (pen (W (Proc.devRef .tc main_arg0))) (candTotals (W (Proc.devRef .tc main_arg2)) (W (Proc.devRef .tc main_arg3)) (W (Proc.devRef .tc main_v34_1)) (W (Proc.devRef .tc main_v34_0)))))
        (wordsOf (candWords (W (Proc.devRef .tc main_arg3)) (W (Proc.devRef .tc main_v34_2)))
          (picks (pen (W (Proc.devRef .tc main_arg0))) (candTotals (W (Proc.devRef .tc main_arg2)) (W (Proc.devRef .tc main_arg3)) (W (Proc.devRef .tc main_v34_1)) (W (Proc.devRef .tc main_v34_0))))) := by
  rw [tail_lists, last_finished,
    kept11 _ (r := main_arg3) (by decide +kernel) (by decide +kernel), kept9 _ (r := main_arg3) (by decide +kernel) (by decide +kernel), kept7 _ (r := main_arg3) (by decide +kernel), up_finished,
    kept11 _ (r := main_v63) (by decide +kernel) (by decide +kernel), kept9 _ (r := main_v63) (by decide +kernel) (by decide +kernel), div_parent, up_four, up_picks,
    kept11 _ (r := main_v65) (by decide +kernel) (by decide +kernel), take_words, kept7 _ (r := main_v51) (by decide +kernel), kept7 _ (r := main_indices) (by decide +kernel), up_words, up_picks]
  rfl
theorem tail_scores : StableHlo.after (List.flatten [hostOps1, hostOps1_1, hostOps1_2, hostOps1_3, hostOps1_4, hostOps1_5, hostOps1_6, hostOps1_7, hostOps1_8, hostOps1_9, hostOps1_10, hostOps1_11, hostOps1_12]) W (Proc.devRef .tc main_v68)
    = nextScores (totalsOf (candTotals (W (Proc.devRef .tc main_arg2)) (W (Proc.devRef .tc main_arg3)) (W (Proc.devRef .tc main_v34_1)) (W (Proc.devRef .tc main_v34_0)))
        (picks (pen (W (Proc.devRef .tc main_arg0))) (candTotals (W (Proc.devRef .tc main_arg2)) (W (Proc.devRef .tc main_arg3)) (W (Proc.devRef .tc main_v34_1)) (W (Proc.devRef .tc main_v34_0))))) := by
  rw [tail_lists, last_scores, take_totals, kept9 _ (r := main_v53) (by decide +kernel) (by decide +kernel), kept7 _ (r := main_v53) (by decide +kernel),
    kept9 _ (r := main_indices) (by decide +kernel) (by decide +kernel), kept7 _ (r := main_indices) (by decide +kernel), up_totals, up_picks]
end

variable (m : (ℓ : Loc nD τ sig) → Buf (Elt Ideal) ℓ) (ρ : Dev nD → PrngReg) (c : Dev nD)

/-- The candidates' totals and words, of a memory. -/
def memTotals : FVec Ideal S64x4 .f32 := candTotals (m ((c : Thread nD τ).loc main_arg2)) (m ((c : Thread nD τ).loc main_arg3)) (resVal m c) (resLse m c)
def memWords : IVec S64x4 32 := candWords (m ((c : Thread nD τ).loc main_arg3)) (resIdx m c)

/-- What the lines after the launch find in an argument they read. -/
theorem tail_arg (r : Ref sig .tc) (h : ∀ w, Pipeline.arrRef spec0 w ≠ r) :
    Pipeline.withArrays (cfgs 0).spec c (V0 m c) (fun w => (dats m 0 c).arrAt w (cfgs 0).N) (Proc.devRef .tc r) = V m c r :=
  Pipeline.withArrays_of_ne (cfgs 0).spec c (V0 m c) (fun w => (dats m 0 c).arrAt w (cfgs 0).N) r h

theorem tail_0 : Pipeline.withArrays (cfgs 0).spec c (V0 m c) (fun w => (dats m 0 c).arrAt w (cfgs 0).N) (Proc.devRef .tc main_arg0) = m ((c : Thread nD τ).loc main_arg0) :=
  (tail_arg m c main_arg0 (by decide +kernel)).trans (V_main_arg0 m c)
theorem tail_1 : Pipeline.withArrays (cfgs 0).spec c (V0 m c) (fun w => (dats m 0 c).arrAt w (cfgs 0).N) (Proc.devRef .tc main_arg1) = m ((c : Thread nD τ).loc main_arg1) :=
  (tail_arg m c main_arg1 (by decide +kernel)).trans (V_main_arg1 m c)
theorem tail_2 : Pipeline.withArrays (cfgs 0).spec c (V0 m c) (fun w => (dats m 0 c).arrAt w (cfgs 0).N) (Proc.devRef .tc main_arg2) = m ((c : Thread nD τ).loc main_arg2) :=
  (tail_arg m c main_arg2 (by decide +kernel)).trans (V_main_arg2 m c)
theorem tail_3 : Pipeline.withArrays (cfgs 0).spec c (V0 m c) (fun w => (dats m 0 c).arrAt w (cfgs 0).N) (Proc.devRef .tc main_arg3) = m ((c : Thread nD τ).loc main_arg3) :=
  (tail_arg m c main_arg3 (by decide +kernel)).trans (V_main_arg3 m c)
theorem tail_lse : Pipeline.withArrays (cfgs 0).spec c (V0 m c) (fun w => (dats m 0 c).arrAt w (cfgs 0).N) (Proc.devRef .tc main_v34_0) = resLse m c :=
  (tail_arr m c 3).trans (arr_lse m c)
theorem tail_val : Pipeline.withArrays (cfgs 0).spec c (V0 m c) (fun w => (dats m 0 c).arrAt w (cfgs 0).N) (Proc.devRef .tc main_v34_1) = resVal m c :=
  (tail_arr m c 4).trans (arr_val m c)
theorem tail_idx : Pipeline.withArrays (cfgs 0).spec c (V0 m c) (fun w => (dats m 0 c).arrAt w (cfgs 0).N) (Proc.devRef .tc main_v34_2) = resIdx m c :=
  (tail_arr m c 5).trans (arr_idx m c)

/-- The three results, of a memory. -/
def memPrefixes : IVec S64x8 32 := nextPrefixes (m ((c : Thread nD τ).loc main_arg1)) (parentOf (picks (pen (m ((c : Thread nD τ).loc main_arg0))) (memTotals m c))) (wordsOf (memWords m c) (picks (pen (m ((c : Thread nD τ).loc main_arg0))) (memTotals m c)))
def memScores : FVec Ideal S64x1 .f32 := nextScores (totalsOf (memTotals m c) (picks (pen (m ((c : Thread nD τ).loc main_arg0))) (memTotals m c)))
def memFinished : IVec S64 32 := nextFinished (m ((c : Thread nD τ).loc main_arg3)) (parentOf (picks (pen (m ((c : Thread nD τ).loc main_arg0))) (memTotals m c))) (wordsOf (memWords m c) (picks (pen (m ((c : Thread nD τ).loc main_arg0))) (memTotals m c)))

/-- What the three results hold at the end. -/
theorem run_results : θ_run defs (onTc (τ := τ) (main (F := Ideal))) (s₀ m ρ) (fun r => ∀ c : Dev nD,
    r.2.mem ((c.tc : Thread nD τ).loc main_v84) = memPrefixes m c ∧ r.2.mem ((c.tc : Thread nD τ).loc main_v68) = memScores m c
    ∧ r.2.mem ((c.tc : Thread nD τ).loc main_v96) = memFinished m c) := by
  run_from ((θ_run defs _ _).mono (fun _ h => h.1) (run_main m ρ))
  · show StableHlo.after (List.flatten [hostOps1, hostOps1_1, hostOps1_2, hostOps1_3, hostOps1_4, hostOps1_5, hostOps1_6, hostOps1_7, hostOps1_8, hostOps1_9, hostOps1_10, hostOps1_11, hostOps1_12]) _ (Proc.devRef .tc main_v84) = _
    rw [tail_prefixes, tail_0, tail_1, tail_2, tail_3, tail_lse, tail_val, tail_idx]
    rfl
  · show StableHlo.after (List.flatten [hostOps1, hostOps1_1, hostOps1_2, hostOps1_3, hostOps1_4, hostOps1_5, hostOps1_6, hostOps1_7, hostOps1_8, hostOps1_9, hostOps1_10, hostOps1_11, hostOps1_12]) _ (Proc.devRef .tc main_v68) = _
    rw [tail_scores, tail_0, tail_2, tail_3, tail_lse, tail_val]
    rfl
  · show StableHlo.after (List.flatten [hostOps1, hostOps1_1, hostOps1_2, hostOps1_3, hostOps1_4, hostOps1_5, hostOps1_6, hostOps1_7, hostOps1_8, hostOps1_9, hostOps1_10, hostOps1_11, hostOps1_12]) _ (Proc.devRef .tc main_v96) = _
    rw [tail_finished, tail_0, tail_2, tail_3, tail_lse, tail_val, tail_idx]
    rfl

end Cert.KernelIdeal.Vocab

end
-- ==== Proof.Totals.lean ====
/-
  The totals of all continuations, as the reference computes them, entry by entry.
-/
module

public import proofs.«01_k».proof.Proof.Refer

@[expose] public section

set_option maxRecDepth 16384

noncomputable section

namespace Cert.ReferenceIdeal.Vocab

open Idealize.ShloMosaic Idealize.ShloMosaic.TcCoe Cert.ReferenceIdeal Cert.ReferenceIdeal.Gen Cert.Vocab

/-- The greatest logit of each row. -/
def rowTop (L : FVec Ideal S64x100000 .f32) : FVec Ideal S64 .f32 :=
  maximumf (broadcastInDim S64 ![] bcast_S_S64 (constant S_ .f32 0xFF800000#32)) (Host.reduce FloatOps.maximumf L (constant S_ .f32 0xFF800000#32) reducesTo_S64x100000_S64_d1 h_S_)

/-- … its entries. -/
theorem rowTop_apply (L : FVec Ideal S64x100000 .f32) (l : Fin 64) : rowTop L (ix1 l) = top fun v : Fin 100000 => L (ix2 l v) := by
  have hm : ∀ z x : FVec Ideal S64 .f32, maximumf z x (ix1 l) = max (z (ix1 l)) (x (ix1 l)) := fun z x => rfl
  have hz : (broadcastInDim S64 ![] bcast_S_S64 (constant (F := Ideal) S_ .f32 0xFF800000#32)) (ix1 l) = ⊥ := negInf
  have hr : Host.reduce FloatOps.maximumf L (constant S_ .f32 0xFF800000#32) reducesTo_S64x100000_S64_d1 h_S_ (ix1 l) = top fun v : Fin 100000 => L (ix2 l v) := by
    pointwise [negInf]
  rw [rowTop, hm, hz, hr]
  exact max_bot_left _

/-- The logits less the greatest of the row. -/
def centred (L : FVec Ideal S64x100000 .f32) : FVec Ideal S64x100000 .f32 :=
  subf L (broadcastInDim S64x100000 ![0, 1] bcast_S64x1_S64x100000_0_1 (broadcastInDim S64x1 ![0] bcast_S64_S64x1_0 (rowTop L)))

/-- The log-probabilities of a finished ray. -/
def padRow : FVec Ideal S1x100000 .f32 :=
  broadcastInDim S1x100000 ![1] bcast_S100000_S1x100000_1 (select (cmpi .eq (iotaInDim S100000 32 0) (broadcastInDim S100000 ![] bcast_S_S100000 (constantI S_ 32 0#32))) (broadcastInDim S100000 ![] bcast_S_S100000 (constant S_ .f32 0x00000000#32)) (broadcastInDim S100000 ![] bcast_S_S100000 (constant S_ .f32 0xCE6E6B28#32)))

/-- The totals of all continuations. -/
def totals (a2 : FVec Ideal S64x1 .f32) (a3 : IVec S64 32) (L : FVec Ideal S64x100000 .f32) : FVec Ideal S64x100000 .f32 :=
  addf (broadcastInDim S64x100000 ![0, 1] bcast_S64x1_S64x100000_0_1 a2) (select (broadcastInDim S64x100000 ![0, 1] bcast_S64x1_S64x100000_0_1 (cmpi .sgt (broadcastInDim S64x1 ![0] bcast_S64_S64x1_0 a3) (broadcastInDim S64x1 ![] bcast_S_S64x1 (constantI S_ 32 0#32)))) (broadcastInDim S64x100000 ![0, 1] bcast_S1x100000_S64x100000_0_1 (id padRow)) (subf (centred L) (broadcastInDim S64x100000 ![0, 1] bcast_S64x1_S64x100000_0_1 (Host.log (broadcastInDim S64x1 ![0] bcast_S64_S64x1_0 (Host.reduceAdd (Host.exp (centred L)) (constant S_ .f32 0x00000000#32) reducesTo_S64x100000_S64_d1 h_S_))))))

/-- A row's ray is finished. -/
abbrev isFin (a3 : IVec S64 32) (l : Fin 64) : Prop := IntOp.cmpi .sgt (a3 (ix1 l)) 0#32 = 1#1

/-- The row of a finished ray: nothing at the padding, the mask's value at every other word. -/
theorem padRow_apply (v : Fin 100000) : padRow (ix2 0 v) = if v = 0 then 0 else Ideal.ofBits .f32 3463342888#32 := by
  have e : padRow (ix2 0 v) = Scalar.select (IntOp.cmpi .eq (BitVec.ofNat 32 v.val) 0#32) (Ideal.ofBits .f32 0#32) (Ideal.ofBits .f32 3463342888#32) := rfl
  have h : BitVec.ofNat 32 v.val = 0#32 ↔ v = 0 := by
    rw [← BitVec.toNat_inj, BitVec.toNat_ofNat, BitVec.toNat_ofNat, Nat.zero_mod, Nat.mod_eq_of_lt (by omega), Fin.ext_iff]
    rfl
  rw [e]
  by_cases hv : v = 0
  · subst hv
    rw [if_pos rfl]
    refine Eq.trans ?_ (Ideal.ofBits_zero .f32)
    rfl
  · rw [if_neg hv, IntOp.cmpi]
    simp only [beq_eq_false_iff_ne.mpr (fun e => hv (h.mp e))]
    rfl

/-- A choice by a bit. -/
theorem select_bit {α : Type} (b : BitVec 1) (x y : α) : Scalar.select b x y = if b = 1#1 then x else y := by
  rcases BitVec.eq_zero_or_eq_one b with h | h <;> rw [h] <;> rfl

/-- … their entries. -/
theorem centred_apply (L : FVec Ideal S64x100000 .f32) (l : Fin 64) (v : Fin 100000) : centred L (ix2 l v) = L (ix2 l v) - top fun v : Fin 100000 => L (ix2 l v) := by
  pointwise [centred, rowTop_apply]

theorem totals_apply (a2 : FVec Ideal S64x1 .f32) (a3 : IVec S64 32) (L : FVec Ideal S64x100000 .f32) (l : Fin 64) (v : Fin 100000) :
    totals a2 a3 L (ix2 l v) = wordTotal (Ideal.ofBits .f32 0xCE6E6B28#32) (a2 (ix2 l 0)) (isFin a3 l) (fun v => L (ix2 l v)) v := by
  rw [wordTotal, rayLog]
  pointwise [totals, centred_apply]
  rw [id, padRow_apply, select_bit]

end Cert.ReferenceIdeal.Vocab

end
-- ==== Proof.Rows.lean ====
/-
  The candidates' arrays, read at an entry; and an array's rows grouped in fours.
-/
module

public import proofs.«01_k».proof.Proof.Next
public import proofs.«01_k».proof.Proof.Totals
public import Idealize.ShloMosaic.Lib.ValueLayout

@[expose] public section

set_option maxRecDepth 16384

noncomputable section

namespace Cert.Vocab

open Idealize.ShloMosaic Cert.KernelIdeal Cert.KernelIdeal.Gen
open Cert.ReferenceIdeal.Vocab (isFin select_bit)

/-- Row `b'` of the four of `b`. -/
def row (b : Fin 16) (b' : Fin 4) : Fin 64 := ⟨4 * b.val + b'.val, by omega⟩

/-- Sixteen candidates per row, from four per ray. -/
theorem grouped_cands {α : Type} (x : S64x4.Idx → α) (b : Fin 16) (b' r : Fin 4) : shapeCast S16x16 x shapeCasts_S64x4_S16x16 (ix2 b (c16 b' r)) = x (ix2 (row b b') r) := by
  refine shapeCast_apply x _ _ _ ?_
  rw [Shape.rowMajor_val_two, Shape.rowMajor_val_two]
  show (4 * b.val + b'.val) * 4 + r.val = b.val * 16 + (4 * b'.val + r.val)
  omega
/-- The continuations of four rays per row. -/
theorem grouped_words {α : Type} (x : Cert.ReferenceIdeal.S64x100000.Idx → α) (b : Fin 16) (b' : Fin 4) (v : Fin 100000) :
    shapeCast Cert.ReferenceIdeal.S16x400000 x Cert.ReferenceIdeal.Gen.shapeCasts_S64x100000_S16x400000 (ix2 b (at4 b' v)) = x (ix2 (row b b') v) := by
  refine shapeCast_apply x _ _ _ ?_
  rw [Shape.rowMajor_val_two, Shape.rowMajor_val_two]
  show (4 * b.val + b'.val) * 100000 + v.val = b.val * 400000 + (100000 * b'.val + v.val)
  omega

/-- The continuations' totals, divided. -/
theorem scaled_words (q : FVec Ideal S_ .f32) (T : FVec Ideal Cert.ReferenceIdeal.S64x100000 .f32) (b : Fin 16) (j : Fin 400000) :
    shapeCast Cert.ReferenceIdeal.S16x400000 (Host.divf T (broadcastInDim Cert.ReferenceIdeal.S64x100000 ![] Cert.ReferenceIdeal.Gen.bcast_S_S64x100000 (id q)))
      Cert.ReferenceIdeal.Gen.shapeCasts_S64x100000_S16x400000 (ix2 b j)
    = Ideal.div (shapeCast Cert.ReferenceIdeal.S16x400000 T Cert.ReferenceIdeal.Gen.shapeCasts_S64x100000_S16x400000 (ix2 b j)) (q ix0) := by
  obtain ⟨b', v, rfl⟩ : ∃ b' v, j = at4 b' v := ⟨ray j, word j, (at4_ray_word j).symm⟩
  rw [grouped_words, grouped_words]
  exact congrArg (fun j => Ideal.div (T (ix2 (row b b') v)) (q j)) (funext fun a => a.elim0)

/-- The candidates' totals, divided. -/
theorem scaled_cands (q : FVec Ideal S_ .f32) (T : FVec Ideal S64x4 .f32) (b : Fin 16) (j : Fin 16) :
    shapeCast S16x16 (Host.divf T (broadcastInDim S64x4 ![] bcast_S_S64x4 (id q))) shapeCasts_S64x4_S16x16 (ix2 b j)
    = Ideal.div (shapeCast S16x16 T shapeCasts_S64x4_S16x16 (ix2 b j)) (q ix0) :=
  congrArg (fun j' => Ideal.div (shapeCast S16x16 T shapeCasts_S64x4_S16x16 (ix2 b j)) (q j')) (funext fun a => a.elim0)

/-- A finished ray's candidates. -/
theorem padCand_apply (r : Fin 4) : padCand (ix2 0 r) = if r = 0 then 0 else Ideal.ofBits .f32 3463342888#32 := by
  have e : padCand (ix2 0 r) = Scalar.select (IntOp.cmpi .eq (BitVec.ofNat 32 r.val) 0#32) (Ideal.ofBits .f32 0#32) (Ideal.ofBits .f32 3463342888#32) := rfl
  rw [e, Ideal.ofBits_zero]
  match r with
  | 0 => rfl
  | 1 => rfl
  | 2 => rfl
  | 3 => rfl

/-- A candidate's total. -/
theorem candTotals_apply (a2 : FVec Ideal S64x1 .f32) (a3 : IVec S64 32) (vals : FVec Ideal S4x64 .f32) (lse : FVec Ideal S1x64 .f32) (l : Fin 64) (r : Fin 4) :
    candTotals a2 a3 vals lse (ix2 l r)
    = a2 (ix2 l 0) + if isFin a3 l then (if r = 0 then 0 else Ideal.ofBits .f32 3463342888#32) else vals (ix2 r l) - lse (ix2 0 l) := by
  pointwise [candTotals, finished]
  rw [id, padCand_apply, select_bit]

/-- A candidate's word. -/
theorem candWords_apply (a3 : IVec S64 32) (words : IVec S4x64 32) (l : Fin 64) (r : Fin 4) :
    candWords a3 words (ix2 l r) = if isFin a3 l then 0#32 else words (ix2 r l) := by
  pointwise [candWords, finished, select_bit]
  rfl

/-- The divisor of the totals is a positive real number. -/
theorem pen_real (i : IVec S_ 32) (h : 1 ≤ (i ix0).toInt ∧ (i ix0).toInt ≤ 6) : ∃ d : ℝ, 0 < d ∧ pen i ix0 = (d : EReal) := by
  have e5 : Ideal.ofBits .f32 0x40A00000#32 = ((5 : ℝ) : EReal) := by
    simp [Ideal.ofBits, Ideal.ieee]
    rw [← EReal.coe_mul]
    norm_num
  have e6 : Ideal.ofBits .f32 0x40C00000#32 = ((6 : ℝ) : EReal) := by
    simp [Ideal.ofBits, Ideal.ieee]
    rw [← EReal.coe_mul]
    norm_num
  obtain ⟨y, ey⟩ : ∃ y : ℝ, Ideal.ofBits .f32 0x3F19999A#32 = (y : EReal) := ⟨10066330 / 16777216, by
    simp [Ideal.ofBits, Ideal.ieee]
    rw [← EReal.coe_mul]
    norm_num⟩
  have en : ((i ix0) + 1#32).toInt = (i ix0).toInt + 1 := by
    rw [BitVec.toInt_add]
    simp only [BitVec.reduceToInt]
    exact Int.bmod_eq_of_le (by omega) (by omega)
  have e : pen i ix0 = Ideal.pow (Ideal.div (Ideal.ofBits .f32 0x40A00000#32 + (((((i ix0) + 1#32).toInt : ℤ) : ℝ) : EReal)) (Ideal.ofBits .f32 0x40C00000#32)) (Ideal.ofBits .f32 0x3F19999A#32) := rfl
  have hpos : (0 : ℝ) < (5 + (((i ix0).toInt + 1 : ℤ) : ℝ)) / 6 := by
    have : (1 : ℝ) ≤ (((i ix0).toInt : ℤ) : ℝ) := by exact_mod_cast h.1
    push_cast
    linarith
  refine ⟨Real.rpow ((5 + (((i ix0).toInt + 1 : ℤ) : ℝ)) / 6) y, Real.rpow_pos_of_pos hpos y, ?_⟩
  rw [e, e5, e6, ey, en, ← EReal.coe_add, Ideal.div_coe (by norm_num), ← EReal.coe_mul, Ideal.pow_coe_coe, mul_one_div]

end Cert.Vocab

end
-- ==== Proof.Expect.lean ====
/-
  The reference's three results, from the totals of all continuations.
-/
module

public import proofs.«01_k».proof.Proof.Next
public import proofs.«01_k».proof.Proof.Totals

@[expose] public section

set_option maxRecDepth 16384

noncomputable section

namespace Cert.ReferenceIdeal.Vocab

open Idealize.ShloMosaic Idealize.ShloMosaic.TcCoe Idealize.ShloMosaic.Routing Idealize.SL.Sem
open Cert.ReferenceIdeal Cert.ReferenceIdeal.Gen Cert.Vocab

/-- The four picked continuations of each of the sixteen, where the totals are divided by `q`. -/
def allPicks (q : FVec Ideal S_ .f32) (T : FVec Ideal S64x100000 .f32) : IVec S16x4 32 :=
  (Host.topK S16x4 1 (FloatOps.cmpfTotal .gt) (shapeCast S16x400000 (Host.divf T (broadcastInDim S64x100000 ![] bcast_S_S64x100000 (id q))) shapeCasts_S64x100000_S16x400000) sliceFits_S16x400000_S16x4).2

/-- The rays and the words of the picks, and their totals. -/
def allParents (p : IVec S16x4 32) : IVec S16x4 32 := pyDiv bcast_S_S16x4 p (id (constantI S_ 32 100000#32))
def allWords (p : IVec S16x4 32) : IVec S16x4 32 := pyRem bcast_S_S16x4 p (id (constantI S_ 32 100000#32))
def allTotals (T : FVec Ideal S64x100000 .f32) (p : IVec S16x4 32) : FVec Ideal S16x4 .f32 :=
  takeAlong 400000 gather_S16x400000_S16x4x1_S16x4_n_1_0_0_1_2_11.wf 400000#32 399999#32 (shapeCast S16x400000 T shapeCasts_S64x100000_S16x400000) p (broadcastInDim S16x4 ![] bcast_S_S16x4 (constant S_ .f32 0x7FC00000#32))

variable (V : Valuation τ sig (Elt Ideal))

/-- The totals of all continuations, of a valuation. -/
def valTotals : FVec Ideal S64x100000 .f32 :=
  totals (V (Proc.devRef .tc main_arg2)) (V (Proc.devRef .tc main_arg3))
    (refLogits (hidden (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)))
      (V (Proc.devRef .tc main_arg6)))

theorem res_logits : Value.res_main_v31 V = refLogits (hidden (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)))
      (V (Proc.devRef .tc main_arg6)) := rfl
theorem res_totals : Value.res_main_v48 V = valTotals V := by
  unfold Value.res_main_v48 Value.res_main_call1_v5
  rw [res_logits]
  rfl
theorem res_picks : Value.res_main_indices V = allPicks (pen (V (Proc.devRef .tc main_arg0))) (valTotals V) := by
  unfold Value.res_main_indices Value.res_main_v52
  rw [res_totals]
  rfl

variable (m : (ℓ : Loc nD τ sig) → Buf (Elt Ideal) ℓ) (ρ : Dev nD → PrngReg)

/-- What the three results hold at the end, and that the arguments are kept. -/
theorem run_results : θ_run defs (onTc (τ := τ) (main (F := Ideal))) ⟨m, fun _ => 0, ρ⟩ fun r => ∀ c : Dev nD,
    r.2.mem ((c.tc : Thread nD τ).loc main_v73) = nextPrefixes (m ((c.tc : Thread nD τ).loc main_arg1)) (allParents (allPicks (pen (m ((c.tc : Thread nD τ).loc main_arg0))) (valTotals (StableHlo.launchContents m c)))) (allWords (allPicks (pen (m ((c.tc : Thread nD τ).loc main_arg0))) (valTotals (StableHlo.launchContents m c))))
    ∧ r.2.mem ((c.tc : Thread nD τ).loc main_v64) = nextScores (allTotals (valTotals (StableHlo.launchContents m c)) (allPicks (pen (m ((c.tc : Thread nD τ).loc main_arg0))) (valTotals (StableHlo.launchContents m c))))
    ∧ r.2.mem ((c.tc : Thread nD τ).loc main_v85) = nextFinished (m ((c.tc : Thread nD τ).loc main_arg3)) (allParents (allPicks (pen (m ((c.tc : Thread nD τ).loc main_arg0))) (valTotals (StableHlo.launchContents m c)))) (allWords (allPicks (pen (m ((c.tc : Thread nD τ).loc main_arg0))) (valTotals (StableHlo.launchContents m c)))) := by
  refine (θ_run _ _ _).mono (fun r h c => ⟨(h c).1.trans ?_, (h c).2.1.trans ?_, (h c).2.2.1.trans ?_⟩) (Value.run m ρ)
  · unfold Value.res_main_v61 Value.res_main_v54 Value.res_main_call4_v2 Value.res_main_call5_v4
    rw [res_picks]
    rfl
  · unfold Value.res_main_call6_v5
    rw [res_picks, res_totals]
    rfl
  · unfold Value.res_main_v61 Value.res_main_v54 Value.res_main_call4_v2 Value.res_main_call5_v4
    rw [res_picks]
    rfl

end Cert.ReferenceIdeal.Vocab

end
-- ==== Proof.Equal.lean ====
/-
  A turn's three results are the reference's.
-/
module

public import proofs.«01_k».proof.Proof.Whole
public import proofs.«01_k».proof.Proof.Bound
public import proofs.«01_k».proof.Proof.Tail
public import proofs.«01_k».proof.Proof.Rows
public import proofs.«01_k».proof.Proof.Expect

@[expose] public section

set_option maxRecDepth 16384

noncomputable section

namespace Cert.Vocab

open Idealize.ShloMosaic Idealize.ShloMosaic.Routing Cert.KernelIdeal Cert.KernelIdeal.Gen
open Cert.ReferenceIdeal.Vocab (isFin totals totals_apply refLogits refLogits_apply logit allPicks allParents allWords allTotals ofBits_mask)

section
variable (q : FVec Ideal S_ .f32) (a2 : FVec Ideal S64x1 .f32) (a3 : IVec S64 32) (H : FVec Ideal S64x512 .f32) (E : FVec Ideal S100000x512 .f32)
  (vals : FVec Ideal S4x64 .f32) (words : IVec S4x64 32) (lse : FVec Ideal S1x64 .f32) (P : Fin 64 → Fin 4 → Fin 100000)
  (hq : ∃ d : ℝ, 0 < d ∧ q ix0 = (d : EReal)) (ha2 : ∀ i, ∃ a : ℝ, a2 i = a ∧ |a| ≤ 100000000)
  (hX : ∀ l, ∃ f : Fin 100000 → ℝ, ∀ v, logit H E l v = f v)
  (hP : ∀ l, Four (logit H E l) Fin.val (P l))
  (hvals : ∀ l r, vals (ix2 r l) = logit H E l (P l r))
  (hwords : ∀ l r, words (ix2 r l) = BitVec.ofNat 32 (P l r).val)
  (hlse : ∀ l, lse (ix2 0 l) = rayLog (logit H E l) + top (logit H E l))
include hq ha2 hX hP hvals hwords hlse

/-- THE PICKS of the kernel and of the reference, for each of the sixteen: the same rays, words and totals. -/
theorem picks_agree (b : Fin 16) : ∃ p : Fin 4 → Fin 16, ∃ w : Fin 4 → Fin 100000,
    (∀ r, picks q (candTotals a2 a3 vals lse) (ix2 b r) = BitVec.ofNat 32 (p r).val)
    ∧ (∀ r, allPicks q (totals a2 a3 (refLogits H E)) (ix2 b r) = BitVec.ofNat 32 (at4 (cray (p r)) (w r)).val)
    ∧ (∀ r, candWords a3 words (ix2 (row b (cray (p r))) (crank (p r))) = BitVec.ofNat 32 (w r).val)
    ∧ ∀ r, candTotals a2 a3 vals lse (ix2 (row b (cray (p r))) (crank (p r))) = totals a2 a3 (refLogits H E) (ix2 (row b (cray (p r))) (w r)) := by
  have eX : ∀ l, (fun v => refLogits H E (ix2 l v)) = logit H E l := fun l => funext fun v => refLogits_apply H E l v
  obtain ⟨p, h1, h2, h3⟩ := step_four (neg := Ideal.ofBits .f32 0xCE6E6B28#32) (pen := q ix0)
    (s := fun b' => a2 (ix2 (row b b') 0)) (fin := fun b' => isFin a3 (row b b')) (X := fun b' => logit H E (row b b')) (P := fun b' => P (row b b'))
    (T := fun j => shapeCast Cert.ReferenceIdeal.S16x400000 (totals a2 a3 (refLogits H E)) Cert.ReferenceIdeal.Gen.shapeCasts_S64x100000_S16x400000 (ix2 b j))
    (K := fun k => shapeCast S16x16 (candTotals a2 a3 vals lse) shapeCasts_S64x4_S16x16 (ix2 b k))
    ofBits_mask hq (fun b' => ha2 _) (fun b' => hX _) (fun b' => hP _)
    (fun b' v => (grouped_words _ b b' v).trans ((totals_apply a2 a3 _ _ v).trans (by rw [eX])))
    (fun b' r => (grouped_cands _ b b' r).trans ((candTotals_apply a2 a3 vals lse _ r).trans (by rw [candTotal, hvals, hlse])))
  refine ⟨p, fun r => candWord (fun b' => isFin a3 (row b b')) (fun b' => P (row b b')) (cray (p r)) (crank (p r)), fun r => ?_, fun r => ?_, fun r => ?_, fun r => ?_⟩
  · simp only [← scaled_cands] at h1
    exact topK_rows (n := 16) (by norm_num) _ _ b r h1
  · simp only [← scaled_words] at h2
    exact topK_rows (n := 400000) (by norm_num) Cert.ReferenceIdeal.Gen.sliceFits_S16x400000_S16x4 _ b r h2
  · beta_reduce
    rw [candWords_apply, candWord]
    split
    · rfl
    · exact hwords _ _
  · have h := h3 r
    rw [← grouped_words (totals a2 a3 (refLogits H E)), ← grouped_cands (candTotals a2 a3 vals lse), c16_ray_rank]
    exact h

/-- So the rays picked are the same, … -/
theorem parents_agree : parentOf (picks q (candTotals a2 a3 vals lse)) = allParents (allPicks q (totals a2 a3 (refLogits H E))) := by
  funext i
  obtain ⟨b, r, rfl⟩ : ∃ (b : Fin 16) (r : Fin 4), i = ix2 b r := ⟨i 0, i 1, eq_ix2 i⟩
  obtain ⟨p, w, h1, h2, _, _⟩ := picks_agree q a2 a3 H E vals words lse P hq ha2 hX hP hvals hwords hlse b
  have k1 := pyDiv_ap bcast_S_S16x4 _ (id (constantI S_ 32 4#32)) (ix2 b r) (h1 r) (b := 4) rfl (by have := (p r).isLt; omega) (by norm_num) (by norm_num)
  have k2 := pyDiv_ap Cert.ReferenceIdeal.Gen.bcast_S_S16x4 _ (id (constantI S_ 32 100000#32)) (ix2 b r) (h2 r) (b := 100000) rfl (by have := (at4 (cray (p r)) (w r)).isLt; omega) (by norm_num) (by norm_num)
  refine k1.trans (Eq.trans ?_ k2.symm)
  have := (w r).isLt
  congr 1
  simp only [at4, cray]
  omega

/-- … the words … -/
theorem words_agree : wordsOf (candWords a3 words) (picks q (candTotals a2 a3 vals lse)) = allWords (allPicks q (totals a2 a3 (refLogits H E))) := by
  funext i
  obtain ⟨b, r, rfl⟩ : ∃ (b : Fin 16) (r : Fin 4), i = ix2 b r := ⟨i 0, i 1, eq_ix2 i⟩
  obtain ⟨p, w, h1, h2, h3, _⟩ := picks_agree q a2 a3 H E vals words lse P hq ha2 hX hP hvals hwords hlse b
  have k1 := takeAlong_apply (N := 16) (by norm_num) (by norm_num) gather_S16x16_S16x4x1_S16x4_n_1_0_0_1_2_11.wf 16#32 (shapeCast S16x16 (candWords a3 words) shapeCasts_S64x4_S16x16)
    (picks q (candTotals a2 a3 vals lse)) (broadcastInDim S16x4 ![] bcast_S_S16x4 (constantI S_ 32 2147483648#32)) b r (p r) (h1 r)
  have k2 := pyRem_ap Cert.ReferenceIdeal.Gen.bcast_S_S16x4 _ (id (constantI S_ 32 100000#32)) (ix2 b r) (h2 r) (b := 100000) rfl (by have := (at4 (cray (p r)) (w r)).isLt; omega) (by norm_num) (by norm_num)
  refine k1.trans (Eq.trans ?_ k2.symm)
  have e := grouped_cands (candWords a3 words) b (cray (p r)) (crank (p r))
  rw [c16_ray_rank] at e
  refine (e.trans (h3 r)).trans ?_
  have := (w r).isLt
  congr 1
  simp only [at4]
  omega

/-- … and the totals. -/
theorem totals_agree : totalsOf (candTotals a2 a3 vals lse) (picks q (candTotals a2 a3 vals lse)) = allTotals (totals a2 a3 (refLogits H E)) (allPicks q (totals a2 a3 (refLogits H E))) := by
  funext i
  obtain ⟨b, r, rfl⟩ : ∃ (b : Fin 16) (r : Fin 4), i = ix2 b r := ⟨i 0, i 1, eq_ix2 i⟩
  obtain ⟨p, w, h1, h2, _, h4⟩ := picks_agree q a2 a3 H E vals words lse P hq ha2 hX hP hvals hwords hlse b
  have k1 := takeAlong_apply (N := 16) (by norm_num) (by norm_num) gather_S16x16_S16x4x1_S16x4_n_1_0_0_1_2_11.wf 16#32 (shapeCast S16x16 (candTotals a2 a3 vals lse) shapeCasts_S64x4_S16x16)
    (picks q (candTotals a2 a3 vals lse)) (broadcastInDim S16x4 ![] bcast_S_S16x4 (constant (F := Ideal) S_ .f32 0x7FC00000#32)) b r (p r) (h1 r)
  have k2 := takeAlong_apply (N := 400000) (by norm_num) (by norm_num) Cert.ReferenceIdeal.gather_S16x400000_S16x4x1_S16x4_n_1_0_0_1_2_11.wf 400000#32
    (shapeCast Cert.ReferenceIdeal.S16x400000 (totals a2 a3 (refLogits H E)) Cert.ReferenceIdeal.Gen.shapeCasts_S64x100000_S16x400000)
    (allPicks q (totals a2 a3 (refLogits H E))) (broadcastInDim S16x4 ![] bcast_S_S16x4 (constant (F := Ideal) S_ .f32 0x7FC00000#32)) b r (at4 (cray (p r)) (w r)) (h2 r)
  have e := grouped_cands (candTotals a2 a3 vals lse) b (cray (p r)) (crank (p r))
  rw [c16_ray_rank] at e
  exact k1.trans ((e.trans ((h4 r).trans (grouped_words _ b (cray (p r)) (w r)).symm)).trans k2.symm)
end

end Cert.Vocab

namespace Cert.KernelIdeal.Vocab

open Idealize.ShloMosaic Idealize.ShloMosaic.TcCoe
open Cert.KernelIdeal.Gen Cert.Vocab Cert.ReferenceIdeal.Vocab

variable (m : (ℓ : Loc nD τ sig) → Buf (Elt Ideal) ℓ) (c : Dev nD)
  (hp : @Cert.Pre_bounded.fn Cert.Pre_bounded.shape_facts Ideal _ (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) = fun _ => 1#1)

/-- The totals of all continuations, of a memory. -/
def memAll : FVec Ideal Cert.ReferenceIdeal.S64x100000 .f32 := totals (m ((c : Thread nD τ).loc main_arg2)) (m ((c : Thread nD τ).loc main_arg3)) (refLogits (argH m c) (argE m c))

include hp

/-- Under the precondition: a row's logits are real and above the overwriting value. -/
theorem row_real (l : Fin 64) : ∃ f : Fin 100000 → ℝ, (∀ v, logit (argH m c) (argE m c) l v = f v) ∧ ∀ v, NEG < logit (argH m c) (argE m c) l v :=
  logit_real _ _ (fun _ => tanh_real _) (Cert.Pre_bounded.entries (hf := Cert.Pre_bounded.shape_facts) _ _ _ _ _ _ _ _ _ _ hp).1 l

/-- THE PASS: each row's four words, in the launch's results. -/
theorem pass : ∃ P : Fin 64 → Fin 4 → Fin 100000, (∀ l, Four (logit (argH m c) (argE m c) l) Fin.val (P l))
    ∧ (∀ l r, resVal m c (ix2 r l) = logit (argH m c) (argE m c) l (P l r)) ∧ ∀ l r, resIdx m c (ix2 r l) = BitVec.ofNat 32 (P l r).val := by
  have h : ∀ l, ∃ P : Fin 4 → Fin 100000, Four (logit (argH m c) (argE m c) l) Fin.val P
      ∧ (∀ r, resVal m c (ix2 r l) = logit (argH m c) (argE m c) l (P r)) ∧ ∀ r, resIdx m c (ix2 r l) = BitVec.ofNat 32 (P r).val := fun l => by
    obtain ⟨_, _, hneg⟩ := row_real m c hp l
    exact results_four m c l hneg
  choose P hP using h
  exact ⟨P, fun l => (hP l).1, fun l => (hP l).2.1, fun l => (hP l).2.2⟩

theorem pass_lse (l : Fin 64) : resLse m c (ix2 0 l) = rayLog (logit (argH m c) (argE m c) l) + top (logit (argH m c) (argE m c) l) := by
  obtain ⟨f, hf, _⟩ := row_real m c hp l
  rw [result_lse m c l f hf, rayLog, show logit (argH m c) (argE m c) l = fun v => (f v : EReal) from funext hf]

/-- THE PREFIXES. -/
theorem prefixes_eq : memPrefixes m c = nextPrefixes (m ((c : Thread nD τ).loc main_arg1)) (allParents (allPicks (pen (m ((c : Thread nD τ).loc main_arg0))) (memAll m c))) (allWords (allPicks (pen (m ((c : Thread nD τ).loc main_arg0))) (memAll m c))) := by
  obtain ⟨P, h1, h2, h3⟩ := pass m c hp
  have hs := (Cert.Pre_bounded.entries (hf := Cert.Pre_bounded.shape_facts) _ _ _ _ _ _ _ _ _ _ hp).2.1
  have hq := pen_real _ (Cert.Pre_bounded.entries (hf := Cert.Pre_bounded.shape_facts) _ _ _ _ _ _ _ _ _ _ hp).2.2
  have hX := fun l => (row_real m c hp l).imp fun _ h => h.1
  rw [memPrefixes, memTotals, memWords, memAll,
    parents_agree _ _ _ (argH m c) (argE m c) (resVal m c) (resIdx m c) (resLse m c) P hq hs hX h1 h2 h3 (pass_lse m c hp),
    words_agree _ _ _ (argH m c) (argE m c) (resVal m c) (resIdx m c) (resLse m c) P hq hs hX h1 h2 h3 (pass_lse m c hp)]

/-- THE FINISHED MARKS. -/
theorem finished_eq : memFinished m c = nextFinished (m ((c : Thread nD τ).loc main_arg3)) (allParents (allPicks (pen (m ((c : Thread nD τ).loc main_arg0))) (memAll m c))) (allWords (allPicks (pen (m ((c : Thread nD τ).loc main_arg0))) (memAll m c))) := by
  obtain ⟨P, h1, h2, h3⟩ := pass m c hp
  have hs := (Cert.Pre_bounded.entries (hf := Cert.Pre_bounded.shape_facts) _ _ _ _ _ _ _ _ _ _ hp).2.1
  have hq := pen_real _ (Cert.Pre_bounded.entries (hf := Cert.Pre_bounded.shape_facts) _ _ _ _ _ _ _ _ _ _ hp).2.2
  have hX := fun l => (row_real m c hp l).imp fun _ h => h.1
  rw [memFinished, memTotals, memWords, memAll,
    parents_agree _ _ _ (argH m c) (argE m c) (resVal m c) (resIdx m c) (resLse m c) P hq hs hX h1 h2 h3 (pass_lse m c hp),
    words_agree _ _ _ (argH m c) (argE m c) (resVal m c) (resIdx m c) (resLse m c) P hq hs hX h1 h2 h3 (pass_lse m c hp)]

/-- THE SCORES. -/
theorem scores_eq : memScores m c = nextScores (allTotals (memAll m c) (allPicks (pen (m ((c : Thread nD τ).loc main_arg0))) (memAll m c))) := by
  obtain ⟨P, h1, h2, h3⟩ := pass m c hp
  have hs := (Cert.Pre_bounded.entries (hf := Cert.Pre_bounded.shape_facts) _ _ _ _ _ _ _ _ _ _ hp).2.1
  have hq := pen_real _ (Cert.Pre_bounded.entries (hf := Cert.Pre_bounded.shape_facts) _ _ _ _ _ _ _ _ _ _ hp).2.2
  have hX := fun l => (row_real m c hp l).imp fun _ h => h.1
  rw [memScores, memTotals, memAll,
    totals_agree _ _ _ (argH m c) (argE m c) (resVal m c) (resIdx m c) (resLse m c) P hq hs hX h1 h2 h3 (pass_lse m c hp)]

end Cert.KernelIdeal.Vocab

end
-- ==== Proof.KFrame.lean ====
/-
  The kernel's own frame: its exact reading is the same text, for nothing is rewritten, so the frame of that text, proved for
  any floats, is the kernel's.
-/
module

public import proofs.«01_k».proof.Defs
public import proofs.«01_k».proof.Proof.Gen.Kernel
public import proofs.«01_k».proof.Proof.Launch

@[expose] public section

noncomputable section

namespace Cert.Proof

open Idealize.ShloMosaic Idealize.ShloMosaic.TcCoe Idealize.SL.Sem

variable {F : FTy → Type} [FloatOps F]

/-- The two texts have the same kernel bodies. -/
theorem bodies_same : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl
/-- So the same tables of functions. -/
theorem defs_same : Cert.Kernel.defs (F := F) = Cert.KernelIdeal.defs (F := F) :=
  congrArg (Pipeline.defs (Cert.KernelIdeal.pcfgs (F := F))) bodies_same

set_option maxHeartbeats 8000000 in
/-- The kernel runs, keeps its arguments and ends with every counter at zero. -/
theorem kernel_frame : Cert.quiescent_Kernel (hKernel := Cert.Kernel.Gen.facts) := by
  intro m ρ _
  have h := Cert.KernelIdeal.Vocab.frame (F := Bits) m ρ
  rw [← defs_same] at h
  exact h

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import proofs.«01_k».proof.Proof.KFrame
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and ends with every counter at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run m ρ)

/-- The totals of all continuations are the reference's, where the two memories' arguments are the same. -/
theorem totals_same (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4))
    (h5 : V (Proc.devRef .tc Cert.ReferenceIdeal.main_arg5) = m ((c.tc : Thread Cert.KernelIdeal.nD Cert.KernelIdeal.τ).loc Cert.KernelIdeal.main_arg5))
    (h6 : V (Proc.devRef .tc Cert.ReferenceIdeal.main_arg6) = m ((c.tc : Thread Cert.KernelIdeal.nD Cert.KernelIdeal.τ).loc Cert.KernelIdeal.main_arg6))
    (h7 : V (Proc.devRef .tc Cert.ReferenceIdeal.main_arg7) = m ((c.tc : Thread Cert.KernelIdeal.nD Cert.KernelIdeal.τ).loc Cert.KernelIdeal.main_arg7))
    (h8 : V (Proc.devRef .tc Cert.ReferenceIdeal.main_arg8) = m ((c.tc : Thread Cert.KernelIdeal.nD Cert.KernelIdeal.τ).loc Cert.KernelIdeal.main_arg8))
    (h9 : V (Proc.devRef .tc Cert.ReferenceIdeal.main_arg9) = m ((c.tc : Thread Cert.KernelIdeal.nD Cert.KernelIdeal.τ).loc Cert.KernelIdeal.main_arg9)) :
    Cert.ReferenceIdeal.Vocab.valTotals V = Cert.KernelIdeal.Vocab.memAll m c := by
  rw [Cert.ReferenceIdeal.Vocab.valTotals, h0, h1, h2, h3, h4, h5, h6, h7, h8, h9]
  rfl

/-- THE RESULTS AGREE, under the precondition. -/
theorem algebraic : Cert.algebraic_KernelIdeal_ReferenceIdeal_pre_bounded (hKernelIdeal := Cert.KernelIdeal.Gen.facts)
    (hReferenceIdeal := Cert.ReferenceIdeal.Gen.facts) (hPre_bounded := Cert.Pre_bounded.shape_facts) := fun m g m' g' hpre hargs =>
  ⟨fun c => Cert.KernelIdeal.Vocab.memPrefixes m c, fun c => Cert.KernelIdeal.Vocab.memScores m c, fun c => Cert.KernelIdeal.Vocab.memFinished m c,
    (θ_run _ _ _).mono (fun _ h c => ⟨(h.1 c).1, (h.1 c).2.1, (h.1 c).2.2, h.2.1 c⟩)
      (θ_run_and (Cert.KernelIdeal.Vocab.run_results m g) (Cert.KernelIdeal.Vocab.frame m g)),
    (θ_run _ _ _).mono (fun _ h c => by
      obtain ⟨h1, h2, h3⟩ := h.1 c
      obtain ⟨a0, a1, a2, a3, a4, a5, a6, a7, a8, a9⟩ := hargs c
      rw [a0, a1, totals_same m c (StableHlo.launchContents m' c) a0 a1 a2 a3 a4 a5 a6 a7 a8 a9] at h1
      rw [a0, totals_same m c (StableHlo.launchContents m' c) a0 a1 a2 a3 a4 a5 a6 a7 a8 a9] at h2
      rw [a0, a3, totals_same m c (StableHlo.launchContents m' c) a0 a1 a2 a3 a4 a5 a6 a7 a8 a9] at h3
      exact ⟨h1.trans (Cert.KernelIdeal.Vocab.prefixes_eq m c (hpre c)).symm, h2.trans (Cert.KernelIdeal.Vocab.scores_eq m c (hpre c)).symm,
        h3.trans (Cert.KernelIdeal.Vocab.finished_eq m c (hpre c)).symm, (h.2.1 c)⟩)
      (θ_run_and (Cert.ReferenceIdeal.Vocab.run_results m' g') (reference_frame m' g' trivial))⟩

/-- Everything claimed. -/
theorem claim : Cert.Claim :=
  ⟨Cert.Kernel.Gen.facts, Cert.KernelIdeal.Gen.facts, Cert.ReferenceIdeal.Gen.facts, Cert.Pre_bounded.shape_facts,
    kernel_frame, fun m ρ _ => Cert.KernelIdeal.Vocab.frame m ρ, fun m ρ _ => Cert.KernelIdeal.Vocab.frame m ρ,
    reference_frame, fun m ρ _ => reference_frame m ρ trivial, trivial, algebraic⟩

end Cert.Proof

end
